-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 256]⟩ ⟨2, ![8192, 8192]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 4096]⟩ ⟨2, ![8192, 4096]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S8192x4096 : Shape := ⟨2, ![8192, 4096]⟩
abbrev S256x4096 : Shape := ⟨2, ![256, 4096]⟩
abbrev S32x256x256 : Shape := ⟨3, ![32, 256, 256]⟩
abbrev S2x256x4096 : Shape := ⟨3, ![2, 256, 4096]⟩
abbrev S32 : Shape := ⟨1, ![32]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256x256 : Shape := ⟨2, ![256, 256]⟩
abbrev S1x256x256 : Shape := ⟨3, ![1, 256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S256x4096, .f32⟩
  | .local _ .vmem, ⟨0, _⟩ => ⟨S8192x256, .f32⟩
  | .local _ .vmem, ⟨1, _⟩ => ⟨S256x4096, .f32⟩
  | .local _ .vmem, ⟨2, _⟩ => ⟨S32x256x256, .bf16⟩
  | .local _ .vmem, ⟨3, _⟩ => ⟨S32x256x256, .bf16⟩
  | .local _ .vmem, ⟨4, _⟩ => ⟨S2x256x4096, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v407 : BitVec 32 := Scalar.muli v2 c256_i32
  let c0_i32_284 : BitVec 32 := 0#32
  ![v407.toNat, 0]
def k0_off2 (d0 : Dev nD) (c1_i32_285 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.subi v2 c1_i32_285
  let c32_i32_286 : BitVec 32 := 32#32
  let c0_i32_287 : BitVec 32 := 0#32
  let v414 : BitVec 1 := Scalar.cmpi .eq c32_i32_286 c0_i32_287
  let c1_i32_288 : BitVec 32 := 1#32
  let v415 : BitVec 32 := Scalar.select v414 c1_i32_288 c32_i32_286
  let v416 : BitVec 32 := Scalar.remsi v413 v415
  let c0_i32_290 : BitVec 32 := 0#32
  let v418 : BitVec 1 := Scalar.cmpi .slt v416 c0_i32_290
  let c0_i32_291 : BitVec 32 := 0#32
  let v419 : BitVec 1 := Scalar.cmpi .slt v415 c0_i32_291
  let v420 : BitVec 1 := Scalar.xori v418 v419
  let c0_i32_289 : BitVec 32 := 0#32
  let v417 : BitVec 1 := Scalar.cmpi .ne v416 c0_i32_289
  let v421 : BitVec 1 := Scalar.andi v420 v417
  let v422 : BitVec 32 := Scalar.addi v416 v415
  let v423 : BitVec 32 := Scalar.select v421 v422 v416
  let c256_i32_292 : BitVec 32 := 256#32
  let v424 : BitVec 32 := Scalar.muli v423 c256_i32_292
  let c0_i32_297 : BitVec 32 := 0#32
  ![v424.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_298 : BitVec 32 := 256#32
  let v430 : BitVec 32 := Scalar.muli v2 c256_i32_298
  let v431 : Index := Scalar.indexCast v430
  let c0 : Index := 0#32
  ![v431.toNat, 0]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v435 : Index := Scalar.indexCast v2
  let c0_299 : Index := 0#32
  let c0_300 : Index := 0#32
  ![v435.toNat, 0, 0]
def k0_off5 (d0 : Dev nD) (c1_i32_301 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v439 : BitVec 32 := Scalar.addi v2 c1_i32_301
  let c32_i32_302 : BitVec 32 := 32#32
  let c0_i32_303 : BitVec 32 := 0#32
  let v440 : BitVec 1 := Scalar.cmpi .eq c32_i32_302 c0_i32_303
  let c1_i32_304 : BitVec 32 := 1#32
  let v441 : BitVec 32 := Scalar.select v440 c1_i32_304 c32_i32_302
  let v442 : BitVec 32 := Scalar.remsi v439 v441
  let c0_i32_306 : BitVec 32 := 0#32
  let v444 : BitVec 1 := Scalar.cmpi .slt v442 c0_i32_306
  let c0_i32_307 : BitVec 32 := 0#32
  let v445 : BitVec 1 := Scalar.cmpi .slt v441 c0_i32_307
  let v446 : BitVec 1 := Scalar.xori v444 v445
  let c0_i32_305 : BitVec 32 := 0#32
  let v443 : BitVec 1 := Scalar.cmpi .ne v442 c0_i32_305
  let v447 : BitVec 1 := Scalar.andi v446 v443
  let v448 : BitVec 32 := Scalar.addi v442 v441
  let v449 : BitVec 32 := Scalar.select v447 v448 v442
  let c256_i32_308 : BitVec 32 := 256#32
  let v450 : BitVec 32 := Scalar.muli v449 c256_i32_308
  let v451 : Index := Scalar.indexCast v450
  let c0_309 : Index := 0#32
  ![v451.toNat, 0]
def k0_off6 (d0 : Dev nD) (c1_i32_301 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v439 : BitVec 32 := Scalar.addi v2 c1_i32_301
  let c32_i32_302 : BitVec 32 := 32#32
  let c0_i32_303 : BitVec 32 := 0#32
  let v440 : BitVec 1 := Scalar.cmpi .eq c32_i32_302 c0_i32_303
  let c1_i32_304 : BitVec 32 := 1#32
  let v441 : BitVec 32 := Scalar.select v440 c1_i32_304 c32_i32_302
  let v442 : BitVec 32 := Scalar.remsi v439 v441
  let c0_i32_306 : BitVec 32 := 0#32
  let v444 : BitVec 1 := Scalar.cmpi .slt v442 c0_i32_306
  let c0_i32_307 : BitVec 32 := 0#32
  let v445 : BitVec 1 := Scalar.cmpi .slt v441 c0_i32_307
  let v446 : BitVec 1 := Scalar.xori v444 v445
  let c0_i32_305 : BitVec 32 := 0#32
  let v443 : BitVec 1 := Scalar.cmpi .ne v442 c0_i32_305
  let v447 : BitVec 1 := Scalar.andi v446 v443
  let v448 : BitVec 32 := Scalar.addi v442 v441
  let v449 : BitVec 32 := Scalar.select v447 v448 v442
  let v455 : Index := Scalar.indexCast v449
  let c0_310 : Index := 0#32
  let c0_311 : Index := 0#32
  ![v455.toNat, 0, 0]
def k0_off7 (d0 : Dev nD) (c1_i32_301 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v439 : BitVec 32 := Scalar.addi v2 c1_i32_301
  let c32_i32_302 : BitVec 32 := 32#32
  let c0_i32_303 : BitVec 32 := 0#32
  let v440 : BitVec 1 := Scalar.cmpi .eq c32_i32_302 c0_i32_303
  let c1_i32_304 : BitVec 32 := 1#32
  let v441 : BitVec 32 := Scalar.select v440 c1_i32_304 c32_i32_302
  let v442 : BitVec 32 := Scalar.remsi v439 v441
  let c0_i32_306 : BitVec 32 := 0#32
  let v444 : BitVec 1 := Scalar.cmpi .slt v442 c0_i32_306
  let c0_i32_307 : BitVec 32 := 0#32
  let v445 : BitVec 1 := Scalar.cmpi .slt v441 c0_i32_307
  let v446 : BitVec 1 := Scalar.xori v444 v445
  let c0_i32_305 : BitVec 32 := 0#32
  let v443 : BitVec 1 := Scalar.cmpi .ne v442 c0_i32_305
  let v447 : BitVec 1 := Scalar.andi v446 v443
  let v448 : BitVec 32 := Scalar.addi v442 v441
  let v449 : BitVec 32 := Scalar.select v447 v448 v442
  ![v449.toNat]
def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_314 : BitVec 32 := 0#32
  let c0_i32_315 : BitVec 32 := 0#32
  ![v2.toNat, 0, 0]
def k0_off10 (d0 : Dev nD) (c1_i32_301 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v439 : BitVec 32 := Scalar.addi v2 c1_i32_301
  let c32_i32_302 : BitVec 32 := 32#32
  let c0_i32_303 : BitVec 32 := 0#32
  let v440 : BitVec 1 := Scalar.cmpi .eq c32_i32_302 c0_i32_303
  let c1_i32_304 : BitVec 32 := 1#32
  let v441 : BitVec 32 := Scalar.select v440 c1_i32_304 c32_i32_302
  let v442 : BitVec 32 := Scalar.remsi v439 v441
  let c0_i32_306 : BitVec 32 := 0#32
  let v444 : BitVec 1 := Scalar.cmpi .slt v442 c0_i32_306
  let c0_i32_307 : BitVec 32 := 0#32
  let v445 : BitVec 1 := Scalar.cmpi .slt v441 c0_i32_307
  let v446 : BitVec 1 := Scalar.xori v444 v445
  let c0_i32_305 : BitVec 32 := 0#32
  let v443 : BitVec 1 := Scalar.cmpi .ne v442 c0_i32_305
  let v447 : BitVec 1 := Scalar.andi v446 v443
  let v448 : BitVec 32 := Scalar.addi v442 v441
  let v449 : BitVec 32 := Scalar.select v447 v448 v442
  let c0_i32_316 : BitVec 32 := 0#32
  let c0_i32_317 : BitVec 32 := 0#32
  ![v449.toNat, 0, 0]
def k0_dev32 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_301 : BitVec 32 := 1#32
  let v439 : BitVec 32 := Scalar.addi v2 c1_i32_301
  let c32_i32_302 : BitVec 32 := 32#32
  let c0_i32_303 : BitVec 32 := 0#32
  let v440 : BitVec 1 := Scalar.cmpi .eq c32_i32_302 c0_i32_303
  let c1_i32_304 : BitVec 32 := 1#32
  let v441 : BitVec 32 := Scalar.select v440 c1_i32_304 c32_i32_302
  let v442 : BitVec 32 := Scalar.remsi v439 v441
  let c0_i32_306 : BitVec 32 := 0#32
  let v444 : BitVec 1 := Scalar.cmpi .slt v442 c0_i32_306
  let c0_i32_307 : BitVec 32 := 0#32
  let v445 : BitVec 1 := Scalar.cmpi .slt v441 c0_i32_307
  let v446 : BitVec 1 := Scalar.xori v444 v445
  let c0_i32_305 : BitVec 32 := 0#32
  let v443 : BitVec 1 := Scalar.cmpi .ne v442 c0_i32_305
  let v447 : BitVec 1 := Scalar.andi v446 v443
  let v448 : BitVec 32 := Scalar.addi v442 v441
  let v449 : BitVec 32 := Scalar.select v447 v448 v442
  let c1_i32_312 : BitVec 32 := 1#32
  let v459 : BitVec 32 := Scalar.muli v449 c1_i32_312
  let v460 : BitVec 32 := Scalar.addi c0_i32_313 v459
  v460.toNat
def k0_dev33 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_318 : BitVec 32 := 2#32
  let v469 : BitVec 32 := Scalar.addi v2 c2_i32_318
  let c32_i32_319 : BitVec 32 := 32#32
  let c0_i32_320 : BitVec 32 := 0#32
  let v470 : BitVec 1 := Scalar.cmpi .eq c32_i32_319 c0_i32_320
  let c1_i32_321 : BitVec 32 := 1#32
  let v471 : BitVec 32 := Scalar.select v470 c1_i32_321 c32_i32_319
  let v472 : BitVec 32 := Scalar.remsi v469 v471
  let c0_i32_323 : BitVec 32 := 0#32
  let v474 : BitVec 1 := Scalar.cmpi .slt v472 c0_i32_323
  let c0_i32_324 : BitVec 32 := 0#32
  let v475 : BitVec 1 := Scalar.cmpi .slt v471 c0_i32_324
  let v476 : BitVec 1 := Scalar.xori v474 v475
  let c0_i32_322 : BitVec 32 := 0#32
  let v473 : BitVec 1 := Scalar.cmpi .ne v472 c0_i32_322
  let v477 : BitVec 1 := Scalar.andi v476 v473
  let v478 : BitVec 32 := Scalar.addi v472 v471
  let v479 : BitVec 32 := Scalar.select v477 v478 v472
  let c1_i32_329 : BitVec 32 := 1#32
  let v489 : BitVec 32 := Scalar.muli v479 c1_i32_329
  let v490 : BitVec 32 := Scalar.addi c0_i32_330 v489
  v490.toNat
def k0_dev34 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_335 : BitVec 32 := 3#32
  let v499 : BitVec 32 := Scalar.addi v2 c3_i32_335
  let c32_i32_336 : BitVec 32 := 32#32
  let c0_i32_337 : BitVec 32 := 0#32
  let v500 : BitVec 1 := Scalar.cmpi .eq c32_i32_336 c0_i32_337
  let c1_i32_338 : BitVec 32 := 1#32
  let v501 : BitVec 32 := Scalar.select v500 c1_i32_338 c32_i32_336
  let v502 : BitVec 32 := Scalar.remsi v499 v501
  let c0_i32_340 : BitVec 32 := 0#32
  let v504 : BitVec 1 := Scalar.cmpi .slt v502 c0_i32_340
  let c0_i32_341 : BitVec 32 := 0#32
  let v505 : BitVec 1 := Scalar.cmpi .slt v501 c0_i32_341
  let v506 : BitVec 1 := Scalar.xori v504 v505
  let c0_i32_339 : BitVec 32 := 0#32
  let v503 : BitVec 1 := Scalar.cmpi .ne v502 c0_i32_339
  let v507 : BitVec 1 := Scalar.andi v506 v503
  let v508 : BitVec 32 := Scalar.addi v502 v501
  let v509 : BitVec 32 := Scalar.select v507 v508 v502
  let c1_i32_346 : BitVec 32 := 1#32
  let v519 : BitVec 32 := Scalar.muli v509 c1_i32_346
  let v520 : BitVec 32 := Scalar.addi c0_i32_347 v519
  v520.toNat
def k0_dev35 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_352 : BitVec 32 := 4#32
  let v529 : BitVec 32 := Scalar.addi v2 c4_i32_352
  let c32_i32_353 : BitVec 32 := 32#32
  let c0_i32_354 : BitVec 32 := 0#32
  let v530 : BitVec 1 := Scalar.cmpi .eq c32_i32_353 c0_i32_354
  let c1_i32_355 : BitVec 32 := 1#32
  let v531 : BitVec 32 := Scalar.select v530 c1_i32_355 c32_i32_353
  let v532 : BitVec 32 := Scalar.remsi v529 v531
  let c0_i32_357 : BitVec 32 := 0#32
  let v534 : BitVec 1 := Scalar.cmpi .slt v532 c0_i32_357
  let c0_i32_358 : BitVec 32 := 0#32
  let v535 : BitVec 1 := Scalar.cmpi .slt v531 c0_i32_358
  let v536 : BitVec 1 := Scalar.xori v534 v535
  let c0_i32_356 : BitVec 32 := 0#32
  let v533 : BitVec 1 := Scalar.cmpi .ne v532 c0_i32_356
  let v537 : BitVec 1 := Scalar.andi v536 v533
  let v538 : BitVec 32 := Scalar.addi v532 v531
  let v539 : BitVec 32 := Scalar.select v537 v538 v532
  let c1_i32_363 : BitVec 32 := 1#32
  let v549 : BitVec 32 := Scalar.muli v539 c1_i32_363
  let v550 : BitVec 32 := Scalar.addi c0_i32_364 v549
  v550.toNat
def k0_dev36 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_369 : BitVec 32 := 5#32
  let v559 : BitVec 32 := Scalar.addi v2 c5_i32_369
  let c32_i32_370 : BitVec 32 := 32#32
  let c0_i32_371 : BitVec 32 := 0#32
  let v560 : BitVec 1 := Scalar.cmpi .eq c32_i32_370 c0_i32_371
  let c1_i32_372 : BitVec 32 := 1#32
  let v561 : BitVec 32 := Scalar.select v560 c1_i32_372 c32_i32_370
  let v562 : BitVec 32 := Scalar.remsi v559 v561
  let c0_i32_374 : BitVec 32 := 0#32
  let v564 : BitVec 1 := Scalar.cmpi .slt v562 c0_i32_374
  let c0_i32_375 : BitVec 32 := 0#32
  let v565 : BitVec 1 := Scalar.cmpi .slt v561 c0_i32_375
  let v566 : BitVec 1 := Scalar.xori v564 v565
  let c0_i32_373 : BitVec 32 := 0#32
  let v563 : BitVec 1 := Scalar.cmpi .ne v562 c0_i32_373
  let v567 : BitVec 1 := Scalar.andi v566 v563
  let v568 : BitVec 32 := Scalar.addi v562 v561
  let v569 : BitVec 32 := Scalar.select v567 v568 v562
  let c1_i32_380 : BitVec 32 := 1#32
  let v579 : BitVec 32 := Scalar.muli v569 c1_i32_380
  let v580 : BitVec 32 := Scalar.addi c0_i32_381 v579
  v580.toNat
def k0_dev37 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_386 : BitVec 32 := 6#32
  let v589 : BitVec 32 := Scalar.addi v2 c6_i32_386
  let c32_i32_387 : BitVec 32 := 32#32
  let c0_i32_388 : BitVec 32 := 0#32
  let v590 : BitVec 1 := Scalar.cmpi .eq c32_i32_387 c0_i32_388
  let c1_i32_389 : BitVec 32 := 1#32
  let v591 : BitVec 32 := Scalar.select v590 c1_i32_389 c32_i32_387
  let v592 : BitVec 32 := Scalar.remsi v589 v591
  let c0_i32_391 : BitVec 32 := 0#32
  let v594 : BitVec 1 := Scalar.cmpi .slt v592 c0_i32_391
  let c0_i32_392 : BitVec 32 := 0#32
  let v595 : BitVec 1 := Scalar.cmpi .slt v591 c0_i32_392
  let v596 : BitVec 1 := Scalar.xori v594 v595
  let c0_i32_390 : BitVec 32 := 0#32
  let v593 : BitVec 1 := Scalar.cmpi .ne v592 c0_i32_390
  let v597 : BitVec 1 := Scalar.andi v596 v593
  let v598 : BitVec 32 := Scalar.addi v592 v591
  let v599 : BitVec 32 := Scalar.select v597 v598 v592
  let c1_i32_397 : BitVec 32 := 1#32
  let v609 : BitVec 32 := Scalar.muli v599 c1_i32_397
  let v610 : BitVec 32 := Scalar.addi c0_i32_398 v609
  v610.toNat
def k0_dev38 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_403 : BitVec 32 := 7#32
  let v619 : BitVec 32 := Scalar.addi v2 c7_i32_403
  let c32_i32_404 : BitVec 32 := 32#32
  let c0_i32_405 : BitVec 32 := 0#32
  let v620 : BitVec 1 := Scalar.cmpi .eq c32_i32_404 c0_i32_405
  let c1_i32_406 : BitVec 32 := 1#32
  let v621 : BitVec 32 := Scalar.select v620 c1_i32_406 c32_i32_404
  let v622 : BitVec 32 := Scalar.remsi v619 v621
  let c0_i32_408 : BitVec 32 := 0#32
  let v624 : BitVec 1 := Scalar.cmpi .slt v622 c0_i32_408
  let c0_i32_409 : BitVec 32 := 0#32
  let v625 : BitVec 1 := Scalar.cmpi .slt v621 c0_i32_409
  let v626 : BitVec 1 := Scalar.xori v624 v625
  let c0_i32_407 : BitVec 32 := 0#32
  let v623 : BitVec 1 := Scalar.cmpi .ne v622 c0_i32_407
  let v627 : BitVec 1 := Scalar.andi v626 v623
  let v628 : BitVec 32 := Scalar.addi v622 v621
  let v629 : BitVec 32 := Scalar.select v627 v628 v622
  let c1_i32_414 : BitVec 32 := 1#32
  let v639 : BitVec 32 := Scalar.muli v629 c1_i32_414
  let v640 : BitVec 32 := Scalar.addi c0_i32_415 v639
  v640.toNat
def k0_dev39 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_420 : BitVec 32 := 8#32
  let v649 : BitVec 32 := Scalar.addi v2 c8_i32_420
  let c32_i32_421 : BitVec 32 := 32#32
  let c0_i32_422 : BitVec 32 := 0#32
  let v650 : BitVec 1 := Scalar.cmpi .eq c32_i32_421 c0_i32_422
  let c1_i32_423 : BitVec 32 := 1#32
  let v651 : BitVec 32 := Scalar.select v650 c1_i32_423 c32_i32_421
  let v652 : BitVec 32 := Scalar.remsi v649 v651
  let c0_i32_425 : BitVec 32 := 0#32
  let v654 : BitVec 1 := Scalar.cmpi .slt v652 c0_i32_425
  let c0_i32_426 : BitVec 32 := 0#32
  let v655 : BitVec 1 := Scalar.cmpi .slt v651 c0_i32_426
  let v656 : BitVec 1 := Scalar.xori v654 v655
  let c0_i32_424 : BitVec 32 := 0#32
  let v653 : BitVec 1 := Scalar.cmpi .ne v652 c0_i32_424
  let v657 : BitVec 1 := Scalar.andi v656 v653
  let v658 : BitVec 32 := Scalar.addi v652 v651
  let v659 : BitVec 32 := Scalar.select v657 v658 v652
  let c1_i32_431 : BitVec 32 := 1#32
  let v669 : BitVec 32 := Scalar.muli v659 c1_i32_431
  let v670 : BitVec 32 := Scalar.addi c0_i32_432 v669
  v670.toNat
def k0_dev40 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_437 : BitVec 32 := 9#32
  let v679 : BitVec 32 := Scalar.addi v2 c9_i32_437
  let c32_i32_438 : BitVec 32 := 32#32
  let c0_i32_439 : BitVec 32 := 0#32
  let v680 : BitVec 1 := Scalar.cmpi .eq c32_i32_438 c0_i32_439
  let c1_i32_440 : BitVec 32 := 1#32
  let v681 : BitVec 32 := Scalar.select v680 c1_i32_440 c32_i32_438
  let v682 : BitVec 32 := Scalar.remsi v679 v681
  let c0_i32_442 : BitVec 32 := 0#32
  let v684 : BitVec 1 := Scalar.cmpi .slt v682 c0_i32_442
  let c0_i32_443 : BitVec 32 := 0#32
  let v685 : BitVec 1 := Scalar.cmpi .slt v681 c0_i32_443
  let v686 : BitVec 1 := Scalar.xori v684 v685
  let c0_i32_441 : BitVec 32 := 0#32
  let v683 : BitVec 1 := Scalar.cmpi .ne v682 c0_i32_441
  let v687 : BitVec 1 := Scalar.andi v686 v683
  let v688 : BitVec 32 := Scalar.addi v682 v681
  let v689 : BitVec 32 := Scalar.select v687 v688 v682
  let c1_i32_448 : BitVec 32 := 1#32
  let v699 : BitVec 32 := Scalar.muli v689 c1_i32_448
  let v700 : BitVec 32 := Scalar.addi c0_i32_449 v699
  v700.toNat
def k0_dev41 (d0 : Dev nD) : Nat :=
  let c0_i32_466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_454 : BitVec 32 := 10#32
  let v709 : BitVec 32 := Scalar.addi v2 c10_i32_454
  let c32_i32_455 : BitVec 32 := 32#32
  let c0_i32_456 : BitVec 32 := 0#32
  let v710 : BitVec 1 := Scalar.cmpi .eq c32_i32_455 c0_i32_456
  let c1_i32_457 : BitVec 32 := 1#32
  let v711 : BitVec 32 := Scalar.select v710 c1_i32_457 c32_i32_455
  let v712 : BitVec 32 := Scalar.remsi v709 v711
  let c0_i32_459 : BitVec 32 := 0#32
  let v714 : BitVec 1 := Scalar.cmpi .slt v712 c0_i32_459
  let c0_i32_460 : BitVec 32 := 0#32
  let v715 : BitVec 1 := Scalar.cmpi .slt v711 c0_i32_460
  let v716 : BitVec 1 := Scalar.xori v714 v715
  let c0_i32_458 : BitVec 32 := 0#32
  let v713 : BitVec 1 := Scalar.cmpi .ne v712 c0_i32_458
  let v717 : BitVec 1 := Scalar.andi v716 v713
  let v718 : BitVec 32 := Scalar.addi v712 v711
  let v719 : BitVec 32 := Scalar.select v717 v718 v712
  let c1_i32_465 : BitVec 32 := 1#32
  let v729 : BitVec 32 := Scalar.muli v719 c1_i32_465
  let v730 : BitVec 32 := Scalar.addi c0_i32_466 v729
  v730.toNat
def k0_dev42 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_471 : BitVec 32 := 11#32
  let v739 : BitVec 32 := Scalar.addi v2 c11_i32_471
  let c32_i32_472 : BitVec 32 := 32#32
  let c0_i32_473 : BitVec 32 := 0#32
  let v740 : BitVec 1 := Scalar.cmpi .eq c32_i32_472 c0_i32_473
  let c1_i32_474 : BitVec 32 := 1#32
  let v741 : BitVec 32 := Scalar.select v740 c1_i32_474 c32_i32_472
  let v742 : BitVec 32 := Scalar.remsi v739 v741
  let c0_i32_476 : BitVec 32 := 0#32
  let v744 : BitVec 1 := Scalar.cmpi .slt v742 c0_i32_476
  let c0_i32_477 : BitVec 32 := 0#32
  let v745 : BitVec 1 := Scalar.cmpi .slt v741 c0_i32_477
  let v746 : BitVec 1 := Scalar.xori v744 v745
  let c0_i32_475 : BitVec 32 := 0#32
  let v743 : BitVec 1 := Scalar.cmpi .ne v742 c0_i32_475
  let v747 : BitVec 1 := Scalar.andi v746 v743
  let v748 : BitVec 32 := Scalar.addi v742 v741
  let v749 : BitVec 32 := Scalar.select v747 v748 v742
  let c1_i32_482 : BitVec 32 := 1#32
  let v759 : BitVec 32 := Scalar.muli v749 c1_i32_482
  let v760 : BitVec 32 := Scalar.addi c0_i32_483 v759
  v760.toNat
def k0_dev43 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_488 : BitVec 32 := 12#32
  let v769 : BitVec 32 := Scalar.addi v2 c12_i32_488
  let c32_i32_489 : BitVec 32 := 32#32
  let c0_i32_490 : BitVec 32 := 0#32
  let v770 : BitVec 1 := Scalar.cmpi .eq c32_i32_489 c0_i32_490
  let c1_i32_491 : BitVec 32 := 1#32
  let v771 : BitVec 32 := Scalar.select v770 c1_i32_491 c32_i32_489
  let v772 : BitVec 32 := Scalar.remsi v769 v771
  let c0_i32_493 : BitVec 32 := 0#32
  let v774 : BitVec 1 := Scalar.cmpi .slt v772 c0_i32_493
  let c0_i32_494 : BitVec 32 := 0#32
  let v775 : BitVec 1 := Scalar.cmpi .slt v771 c0_i32_494
  let v776 : BitVec 1 := Scalar.xori v774 v775
  let c0_i32_492 : BitVec 32 := 0#32
  let v773 : BitVec 1 := Scalar.cmpi .ne v772 c0_i32_492
  let v777 : BitVec 1 := Scalar.andi v776 v773
  let v778 : BitVec 32 := Scalar.addi v772 v771
  let v779 : BitVec 32 := Scalar.select v777 v778 v772
  let c1_i32_499 : BitVec 32 := 1#32
  let v789 : BitVec 32 := Scalar.muli v779 c1_i32_499
  let v790 : BitVec 32 := Scalar.addi c0_i32_500 v789
  v790.toNat
def k0_dev44 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_505 : BitVec 32 := 13#32
  let v799 : BitVec 32 := Scalar.addi v2 c13_i32_505
  let c32_i32_506 : BitVec 32 := 32#32
  let c0_i32_507 : BitVec 32 := 0#32
  let v800 : BitVec 1 := Scalar.cmpi .eq c32_i32_506 c0_i32_507
  let c1_i32_508 : BitVec 32 := 1#32
  let v801 : BitVec 32 := Scalar.select v800 c1_i32_508 c32_i32_506
  let v802 : BitVec 32 := Scalar.remsi v799 v801
  let c0_i32_510 : BitVec 32 := 0#32
  let v804 : BitVec 1 := Scalar.cmpi .slt v802 c0_i32_510
  let c0_i32_511 : BitVec 32 := 0#32
  let v805 : BitVec 1 := Scalar.cmpi .slt v801 c0_i32_511
  let v806 : BitVec 1 := Scalar.xori v804 v805
  let c0_i32_509 : BitVec 32 := 0#32
  let v803 : BitVec 1 := Scalar.cmpi .ne v802 c0_i32_509
  let v807 : BitVec 1 := Scalar.andi v806 v803
  let v808 : BitVec 32 := Scalar.addi v802 v801
  let v809 : BitVec 32 := Scalar.select v807 v808 v802
  let c1_i32_516 : BitVec 32 := 1#32
  let v819 : BitVec 32 := Scalar.muli v809 c1_i32_516
  let v820 : BitVec 32 := Scalar.addi c0_i32_517 v819
  v820.toNat
def k0_dev45 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_522 : BitVec 32 := 14#32
  let v829 : BitVec 32 := Scalar.addi v2 c14_i32_522
  let c32_i32_523 : BitVec 32 := 32#32
  let c0_i32_524 : BitVec 32 := 0#32
  let v830 : BitVec 1 := Scalar.cmpi .eq c32_i32_523 c0_i32_524
  let c1_i32_525 : BitVec 32 := 1#32
  let v831 : BitVec 32 := Scalar.select v830 c1_i32_525 c32_i32_523
  let v832 : BitVec 32 := Scalar.remsi v829 v831
  let c0_i32_527 : BitVec 32 := 0#32
  let v834 : BitVec 1 := Scalar.cmpi .slt v832 c0_i32_527
  let c0_i32_528 : BitVec 32 := 0#32
  let v835 : BitVec 1 := Scalar.cmpi .slt v831 c0_i32_528
  let v836 : BitVec 1 := Scalar.xori v834 v835
  let c0_i32_526 : BitVec 32 := 0#32
  let v833 : BitVec 1 := Scalar.cmpi .ne v832 c0_i32_526
  let v837 : BitVec 1 := Scalar.andi v836 v833
  let v838 : BitVec 32 := Scalar.addi v832 v831
  let v839 : BitVec 32 := Scalar.select v837 v838 v832
  let c1_i32_533 : BitVec 32 := 1#32
  let v849 : BitVec 32 := Scalar.muli v839 c1_i32_533
  let v850 : BitVec 32 := Scalar.addi c0_i32_534 v849
  v850.toNat
def k0_dev46 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_539 : BitVec 32 := 15#32
  let v859 : BitVec 32 := Scalar.addi v2 c15_i32_539
  let c32_i32_540 : BitVec 32 := 32#32
  let c0_i32_541 : BitVec 32 := 0#32
  let v860 : BitVec 1 := Scalar.cmpi .eq c32_i32_540 c0_i32_541
  let c1_i32_542 : BitVec 32 := 1#32
  let v861 : BitVec 32 := Scalar.select v860 c1_i32_542 c32_i32_540
  let v862 : BitVec 32 := Scalar.remsi v859 v861
  let c0_i32_544 : BitVec 32 := 0#32
  let v864 : BitVec 1 := Scalar.cmpi .slt v862 c0_i32_544
  let c0_i32_545 : BitVec 32 := 0#32
  let v865 : BitVec 1 := Scalar.cmpi .slt v861 c0_i32_545
  let v866 : BitVec 1 := Scalar.xori v864 v865
  let c0_i32_543 : BitVec 32 := 0#32
  let v863 : BitVec 1 := Scalar.cmpi .ne v862 c0_i32_543
  let v867 : BitVec 1 := Scalar.andi v866 v863
  let v868 : BitVec 32 := Scalar.addi v862 v861
  let v869 : BitVec 32 := Scalar.select v867 v868 v862
  let c1_i32_550 : BitVec 32 := 1#32
  let v879 : BitVec 32 := Scalar.muli v869 c1_i32_550
  let v880 : BitVec 32 := Scalar.addi c0_i32_551 v879
  v880.toNat
def k0_dev47 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_556 : BitVec 32 := 16#32
  let v889 : BitVec 32 := Scalar.addi v2 c16_i32_556
  let c32_i32_557 : BitVec 32 := 32#32
  let c0_i32_558 : BitVec 32 := 0#32
  let v890 : BitVec 1 := Scalar.cmpi .eq c32_i32_557 c0_i32_558
  let c1_i32_559 : BitVec 32 := 1#32
  let v891 : BitVec 32 := Scalar.select v890 c1_i32_559 c32_i32_557
  let v892 : BitVec 32 := Scalar.remsi v889 v891
  let c0_i32_561 : BitVec 32 := 0#32
  let v894 : BitVec 1 := Scalar.cmpi .slt v892 c0_i32_561
  let c0_i32_562 : BitVec 32 := 0#32
  let v895 : BitVec 1 := Scalar.cmpi .slt v891 c0_i32_562
  let v896 : BitVec 1 := Scalar.xori v894 v895
  let c0_i32_560 : BitVec 32 := 0#32
  let v893 : BitVec 1 := Scalar.cmpi .ne v892 c0_i32_560
  let v897 : BitVec 1 := Scalar.andi v896 v893
  let v898 : BitVec 32 := Scalar.addi v892 v891
  let v899 : BitVec 32 := Scalar.select v897 v898 v892
  let c1_i32_567 : BitVec 32 := 1#32
  let v909 : BitVec 32 := Scalar.muli v899 c1_i32_567
  let v910 : BitVec 32 := Scalar.addi c0_i32_568 v909
  v910.toNat
def k0_dev48 (d0 : Dev nD) : Nat :=
  let c0_i32_585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_573 : BitVec 32 := 17#32
  let v919 : BitVec 32 := Scalar.addi v2 c17_i32_573
  let c32_i32_574 : BitVec 32 := 32#32
  let c0_i32_575 : BitVec 32 := 0#32
  let v920 : BitVec 1 := Scalar.cmpi .eq c32_i32_574 c0_i32_575
  let c1_i32_576 : BitVec 32 := 1#32
  let v921 : BitVec 32 := Scalar.select v920 c1_i32_576 c32_i32_574
  let v922 : BitVec 32 := Scalar.remsi v919 v921
  let c0_i32_578 : BitVec 32 := 0#32
  let v924 : BitVec 1 := Scalar.cmpi .slt v922 c0_i32_578
  let c0_i32_579 : BitVec 32 := 0#32
  let v925 : BitVec 1 := Scalar.cmpi .slt v921 c0_i32_579
  let v926 : BitVec 1 := Scalar.xori v924 v925
  let c0_i32_577 : BitVec 32 := 0#32
  let v923 : BitVec 1 := Scalar.cmpi .ne v922 c0_i32_577
  let v927 : BitVec 1 := Scalar.andi v926 v923
  let v928 : BitVec 32 := Scalar.addi v922 v921
  let v929 : BitVec 32 := Scalar.select v927 v928 v922
  let c1_i32_584 : BitVec 32 := 1#32
  let v939 : BitVec 32 := Scalar.muli v929 c1_i32_584
  let v940 : BitVec 32 := Scalar.addi c0_i32_585 v939
  v940.toNat
def k0_dev49 (d0 : Dev nD) : Nat :=
  let c0_i32_602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_590 : BitVec 32 := 18#32
  let v949 : BitVec 32 := Scalar.addi v2 c18_i32_590
  let c32_i32_591 : BitVec 32 := 32#32
  let c0_i32_592 : BitVec 32 := 0#32
  let v950 : BitVec 1 := Scalar.cmpi .eq c32_i32_591 c0_i32_592
  let c1_i32_593 : BitVec 32 := 1#32
  let v951 : BitVec 32 := Scalar.select v950 c1_i32_593 c32_i32_591
  let v952 : BitVec 32 := Scalar.remsi v949 v951
  let c0_i32_595 : BitVec 32 := 0#32
  let v954 : BitVec 1 := Scalar.cmpi .slt v952 c0_i32_595
  let c0_i32_596 : BitVec 32 := 0#32
  let v955 : BitVec 1 := Scalar.cmpi .slt v951 c0_i32_596
  let v956 : BitVec 1 := Scalar.xori v954 v955
  let c0_i32_594 : BitVec 32 := 0#32
  let v953 : BitVec 1 := Scalar.cmpi .ne v952 c0_i32_594
  let v957 : BitVec 1 := Scalar.andi v956 v953
  let v958 : BitVec 32 := Scalar.addi v952 v951
  let v959 : BitVec 32 := Scalar.select v957 v958 v952
  let c1_i32_601 : BitVec 32 := 1#32
  let v969 : BitVec 32 := Scalar.muli v959 c1_i32_601
  let v970 : BitVec 32 := Scalar.addi c0_i32_602 v969
  v970.toNat
def k0_dev50 (d0 : Dev nD) : Nat :=
  let c0_i32_619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_607 : BitVec 32 := 19#32
  let v979 : BitVec 32 := Scalar.addi v2 c19_i32_607
  let c32_i32_608 : BitVec 32 := 32#32
  let c0_i32_609 : BitVec 32 := 0#32
  let v980 : BitVec 1 := Scalar.cmpi .eq c32_i32_608 c0_i32_609
  let c1_i32_610 : BitVec 32 := 1#32
  let v981 : BitVec 32 := Scalar.select v980 c1_i32_610 c32_i32_608
  let v982 : BitVec 32 := Scalar.remsi v979 v981
  let c0_i32_612 : BitVec 32 := 0#32
  let v984 : BitVec 1 := Scalar.cmpi .slt v982 c0_i32_612
  let c0_i32_613 : BitVec 32 := 0#32
  let v985 : BitVec 1 := Scalar.cmpi .slt v981 c0_i32_613
  let v986 : BitVec 1 := Scalar.xori v984 v985
  let c0_i32_611 : BitVec 32 := 0#32
  let v983 : BitVec 1 := Scalar.cmpi .ne v982 c0_i32_611
  let v987 : BitVec 1 := Scalar.andi v986 v983
  let v988 : BitVec 32 := Scalar.addi v982 v981
  let v989 : BitVec 32 := Scalar.select v987 v988 v982
  let c1_i32_618 : BitVec 32 := 1#32
  let v999 : BitVec 32 := Scalar.muli v989 c1_i32_618
  let v1000 : BitVec 32 := Scalar.addi c0_i32_619 v999
  v1000.toNat
def k0_dev51 (d0 : Dev nD) : Nat :=
  let c0_i32_636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_624 : BitVec 32 := 20#32
  let v1009 : BitVec 32 := Scalar.addi v2 c20_i32_624
  let c32_i32_625 : BitVec 32 := 32#32
  let c0_i32_626 : BitVec 32 := 0#32
  let v1010 : BitVec 1 := Scalar.cmpi .eq c32_i32_625 c0_i32_626
  let c1_i32_627 : BitVec 32 := 1#32
  let v1011 : BitVec 32 := Scalar.select v1010 c1_i32_627 c32_i32_625
  let v1012 : BitVec 32 := Scalar.remsi v1009 v1011
  let c0_i32_629 : BitVec 32 := 0#32
  let v1014 : BitVec 1 := Scalar.cmpi .slt v1012 c0_i32_629
  let c0_i32_630 : BitVec 32 := 0#32
  let v1015 : BitVec 1 := Scalar.cmpi .slt v1011 c0_i32_630
  let v1016 : BitVec 1 := Scalar.xori v1014 v1015
  let c0_i32_628 : BitVec 32 := 0#32
  let v1013 : BitVec 1 := Scalar.cmpi .ne v1012 c0_i32_628
  let v1017 : BitVec 1 := Scalar.andi v1016 v1013
  let v1018 : BitVec 32 := Scalar.addi v1012 v1011
  let v1019 : BitVec 32 := Scalar.select v1017 v1018 v1012
  let c1_i32_635 : BitVec 32 := 1#32
  let v1029 : BitVec 32 := Scalar.muli v1019 c1_i32_635
  let v1030 : BitVec 32 := Scalar.addi c0_i32_636 v1029
  v1030.toNat
def k0_dev52 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_641 : BitVec 32 := 21#32
  let v1039 : BitVec 32 := Scalar.addi v2 c21_i32_641
  let c32_i32_642 : BitVec 32 := 32#32
  let c0_i32_643 : BitVec 32 := 0#32
  let v1040 : BitVec 1 := Scalar.cmpi .eq c32_i32_642 c0_i32_643
  let c1_i32_644 : BitVec 32 := 1#32
  let v1041 : BitVec 32 := Scalar.select v1040 c1_i32_644 c32_i32_642
  let v1042 : BitVec 32 := Scalar.remsi v1039 v1041
  let c0_i32_646 : BitVec 32 := 0#32
  let v1044 : BitVec 1 := Scalar.cmpi .slt v1042 c0_i32_646
  let c0_i32_647 : BitVec 32 := 0#32
  let v1045 : BitVec 1 := Scalar.cmpi .slt v1041 c0_i32_647
  let v1046 : BitVec 1 := Scalar.xori v1044 v1045
  let c0_i32_645 : BitVec 32 := 0#32
  let v1043 : BitVec 1 := Scalar.cmpi .ne v1042 c0_i32_645
  let v1047 : BitVec 1 := Scalar.andi v1046 v1043
  let v1048 : BitVec 32 := Scalar.addi v1042 v1041
  let v1049 : BitVec 32 := Scalar.select v1047 v1048 v1042
  let c1_i32_652 : BitVec 32 := 1#32
  let v1059 : BitVec 32 := Scalar.muli v1049 c1_i32_652
  let v1060 : BitVec 32 := Scalar.addi c0_i32_653 v1059
  v1060.toNat
def k0_dev53 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_658 : BitVec 32 := 22#32
  let v1069 : BitVec 32 := Scalar.addi v2 c22_i32_658
  let c32_i32_659 : BitVec 32 := 32#32
  let c0_i32_660 : BitVec 32 := 0#32
  let v1070 : BitVec 1 := Scalar.cmpi .eq c32_i32_659 c0_i32_660
  let c1_i32_661 : BitVec 32 := 1#32
  let v1071 : BitVec 32 := Scalar.select v1070 c1_i32_661 c32_i32_659
  let v1072 : BitVec 32 := Scalar.remsi v1069 v1071
  let c0_i32_663 : BitVec 32 := 0#32
  let v1074 : BitVec 1 := Scalar.cmpi .slt v1072 c0_i32_663
  let c0_i32_664 : BitVec 32 := 0#32
  let v1075 : BitVec 1 := Scalar.cmpi .slt v1071 c0_i32_664
  let v1076 : BitVec 1 := Scalar.xori v1074 v1075
  let c0_i32_662 : BitVec 32 := 0#32
  let v1073 : BitVec 1 := Scalar.cmpi .ne v1072 c0_i32_662
  let v1077 : BitVec 1 := Scalar.andi v1076 v1073
  let v1078 : BitVec 32 := Scalar.addi v1072 v1071
  let v1079 : BitVec 32 := Scalar.select v1077 v1078 v1072
  let c1_i32_669 : BitVec 32 := 1#32
  let v1089 : BitVec 32 := Scalar.muli v1079 c1_i32_669
  let v1090 : BitVec 32 := Scalar.addi c0_i32_670 v1089
  v1090.toNat
def k0_dev54 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_675 : BitVec 32 := 23#32
  let v1099 : BitVec 32 := Scalar.addi v2 c23_i32_675
  let c32_i32_676 : BitVec 32 := 32#32
  let c0_i32_677 : BitVec 32 := 0#32
  let v1100 : BitVec 1 := Scalar.cmpi .eq c32_i32_676 c0_i32_677
  let c1_i32_678 : BitVec 32 := 1#32
  let v1101 : BitVec 32 := Scalar.select v1100 c1_i32_678 c32_i32_676
  let v1102 : BitVec 32 := Scalar.remsi v1099 v1101
  let c0_i32_680 : BitVec 32 := 0#32
  let v1104 : BitVec 1 := Scalar.cmpi .slt v1102 c0_i32_680
  let c0_i32_681 : BitVec 32 := 0#32
  let v1105 : BitVec 1 := Scalar.cmpi .slt v1101 c0_i32_681
  let v1106 : BitVec 1 := Scalar.xori v1104 v1105
  let c0_i32_679 : BitVec 32 := 0#32
  let v1103 : BitVec 1 := Scalar.cmpi .ne v1102 c0_i32_679
  let v1107 : BitVec 1 := Scalar.andi v1106 v1103
  let v1108 : BitVec 32 := Scalar.addi v1102 v1101
  let v1109 : BitVec 32 := Scalar.select v1107 v1108 v1102
  let c1_i32_686 : BitVec 32 := 1#32
  let v1119 : BitVec 32 := Scalar.muli v1109 c1_i32_686
  let v1120 : BitVec 32 := Scalar.addi c0_i32_687 v1119
  v1120.toNat
def k0_dev55 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_692 : BitVec 32 := 24#32
  let v1129 : BitVec 32 := Scalar.addi v2 c24_i32_692
  let c32_i32_693 : BitVec 32 := 32#32
  let c0_i32_694 : BitVec 32 := 0#32
  let v1130 : BitVec 1 := Scalar.cmpi .eq c32_i32_693 c0_i32_694
  let c1_i32_695 : BitVec 32 := 1#32
  let v1131 : BitVec 32 := Scalar.select v1130 c1_i32_695 c32_i32_693
  let v1132 : BitVec 32 := Scalar.remsi v1129 v1131
  let c0_i32_697 : BitVec 32 := 0#32
  let v1134 : BitVec 1 := Scalar.cmpi .slt v1132 c0_i32_697
  let c0_i32_698 : BitVec 32 := 0#32
  let v1135 : BitVec 1 := Scalar.cmpi .slt v1131 c0_i32_698
  let v1136 : BitVec 1 := Scalar.xori v1134 v1135
  let c0_i32_696 : BitVec 32 := 0#32
  let v1133 : BitVec 1 := Scalar.cmpi .ne v1132 c0_i32_696
  let v1137 : BitVec 1 := Scalar.andi v1136 v1133
  let v1138 : BitVec 32 := Scalar.addi v1132 v1131
  let v1139 : BitVec 32 := Scalar.select v1137 v1138 v1132
  let c1_i32_703 : BitVec 32 := 1#32
  let v1149 : BitVec 32 := Scalar.muli v1139 c1_i32_703
  let v1150 : BitVec 32 := Scalar.addi c0_i32_704 v1149
  v1150.toNat
def k0_dev56 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_709 : BitVec 32 := 25#32
  let v1159 : BitVec 32 := Scalar.addi v2 c25_i32_709
  let c32_i32_710 : BitVec 32 := 32#32
  let c0_i32_711 : BitVec 32 := 0#32
  let v1160 : BitVec 1 := Scalar.cmpi .eq c32_i32_710 c0_i32_711
  let c1_i32_712 : BitVec 32 := 1#32
  let v1161 : BitVec 32 := Scalar.select v1160 c1_i32_712 c32_i32_710
  let v1162 : BitVec 32 := Scalar.remsi v1159 v1161
  let c0_i32_714 : BitVec 32 := 0#32
  let v1164 : BitVec 1 := Scalar.cmpi .slt v1162 c0_i32_714
  let c0_i32_715 : BitVec 32 := 0#32
  let v1165 : BitVec 1 := Scalar.cmpi .slt v1161 c0_i32_715
  let v1166 : BitVec 1 := Scalar.xori v1164 v1165
  let c0_i32_713 : BitVec 32 := 0#32
  let v1163 : BitVec 1 := Scalar.cmpi .ne v1162 c0_i32_713
  let v1167 : BitVec 1 := Scalar.andi v1166 v1163
  let v1168 : BitVec 32 := Scalar.addi v1162 v1161
  let v1169 : BitVec 32 := Scalar.select v1167 v1168 v1162
  let c1_i32_720 : BitVec 32 := 1#32
  let v1179 : BitVec 32 := Scalar.muli v1169 c1_i32_720
  let v1180 : BitVec 32 := Scalar.addi c0_i32_721 v1179
  v1180.toNat
def k0_dev57 (d0 : Dev nD) : Nat :=
  let c0_i32_738 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_726 : BitVec 32 := 26#32
  let v1189 : BitVec 32 := Scalar.addi v2 c26_i32_726
  let c32_i32_727 : BitVec 32 := 32#32
  let c0_i32_728 : BitVec 32 := 0#32
  let v1190 : BitVec 1 := Scalar.cmpi .eq c32_i32_727 c0_i32_728
  let c1_i32_729 : BitVec 32 := 1#32
  let v1191 : BitVec 32 := Scalar.select v1190 c1_i32_729 c32_i32_727
  let v1192 : BitVec 32 := Scalar.remsi v1189 v1191
  let c0_i32_731 : BitVec 32 := 0#32
  let v1194 : BitVec 1 := Scalar.cmpi .slt v1192 c0_i32_731
  let c0_i32_732 : BitVec 32 := 0#32
  let v1195 : BitVec 1 := Scalar.cmpi .slt v1191 c0_i32_732
  let v1196 : BitVec 1 := Scalar.xori v1194 v1195
  let c0_i32_730 : BitVec 32 := 0#32
  let v1193 : BitVec 1 := Scalar.cmpi .ne v1192 c0_i32_730
  let v1197 : BitVec 1 := Scalar.andi v1196 v1193
  let v1198 : BitVec 32 := Scalar.addi v1192 v1191
  let v1199 : BitVec 32 := Scalar.select v1197 v1198 v1192
  let c1_i32_737 : BitVec 32 := 1#32
  let v1209 : BitVec 32 := Scalar.muli v1199 c1_i32_737
  let v1210 : BitVec 32 := Scalar.addi c0_i32_738 v1209
  v1210.toNat
def k0_dev58 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_743 : BitVec 32 := 27#32
  let v1219 : BitVec 32 := Scalar.addi v2 c27_i32_743
  let c32_i32_744 : BitVec 32 := 32#32
  let c0_i32_745 : BitVec 32 := 0#32
  let v1220 : BitVec 1 := Scalar.cmpi .eq c32_i32_744 c0_i32_745
  let c1_i32_746 : BitVec 32 := 1#32
  let v1221 : BitVec 32 := Scalar.select v1220 c1_i32_746 c32_i32_744
  let v1222 : BitVec 32 := Scalar.remsi v1219 v1221
  let c0_i32_748 : BitVec 32 := 0#32
  let v1224 : BitVec 1 := Scalar.cmpi .slt v1222 c0_i32_748
  let c0_i32_749 : BitVec 32 := 0#32
  let v1225 : BitVec 1 := Scalar.cmpi .slt v1221 c0_i32_749
  let v1226 : BitVec 1 := Scalar.xori v1224 v1225
  let c0_i32_747 : BitVec 32 := 0#32
  let v1223 : BitVec 1 := Scalar.cmpi .ne v1222 c0_i32_747
  let v1227 : BitVec 1 := Scalar.andi v1226 v1223
  let v1228 : BitVec 32 := Scalar.addi v1222 v1221
  let v1229 : BitVec 32 := Scalar.select v1227 v1228 v1222
  let c1_i32_754 : BitVec 32 := 1#32
  let v1239 : BitVec 32 := Scalar.muli v1229 c1_i32_754
  let v1240 : BitVec 32 := Scalar.addi c0_i32_755 v1239
  v1240.toNat
def k0_dev59 (d0 : Dev nD) : Nat :=
  let c0_i32_772 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_760 : BitVec 32 := 28#32
  let v1249 : BitVec 32 := Scalar.addi v2 c28_i32_760
  let c32_i32_761 : BitVec 32 := 32#32
  let c0_i32_762 : BitVec 32 := 0#32
  let v1250 : BitVec 1 := Scalar.cmpi .eq c32_i32_761 c0_i32_762
  let c1_i32_763 : BitVec 32 := 1#32
  let v1251 : BitVec 32 := Scalar.select v1250 c1_i32_763 c32_i32_761
  let v1252 : BitVec 32 := Scalar.remsi v1249 v1251
  let c0_i32_765 : BitVec 32 := 0#32
  let v1254 : BitVec 1 := Scalar.cmpi .slt v1252 c0_i32_765
  let c0_i32_766 : BitVec 32 := 0#32
  let v1255 : BitVec 1 := Scalar.cmpi .slt v1251 c0_i32_766
  let v1256 : BitVec 1 := Scalar.xori v1254 v1255
  let c0_i32_764 : BitVec 32 := 0#32
  let v1253 : BitVec 1 := Scalar.cmpi .ne v1252 c0_i32_764
  let v1257 : BitVec 1 := Scalar.andi v1256 v1253
  let v1258 : BitVec 32 := Scalar.addi v1252 v1251
  let v1259 : BitVec 32 := Scalar.select v1257 v1258 v1252
  let c1_i32_771 : BitVec 32 := 1#32
  let v1269 : BitVec 32 := Scalar.muli v1259 c1_i32_771
  let v1270 : BitVec 32 := Scalar.addi c0_i32_772 v1269
  v1270.toNat
def k0_dev60 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_777 : BitVec 32 := 29#32
  let v1279 : BitVec 32 := Scalar.addi v2 c29_i32_777
  let c32_i32_778 : BitVec 32 := 32#32
  let c0_i32_779 : BitVec 32 := 0#32
  let v1280 : BitVec 1 := Scalar.cmpi .eq c32_i32_778 c0_i32_779
  let c1_i32_780 : BitVec 32 := 1#32
  let v1281 : BitVec 32 := Scalar.select v1280 c1_i32_780 c32_i32_778
  let v1282 : BitVec 32 := Scalar.remsi v1279 v1281
  let c0_i32_782 : BitVec 32 := 0#32
  let v1284 : BitVec 1 := Scalar.cmpi .slt v1282 c0_i32_782
  let c0_i32_783 : BitVec 32 := 0#32
  let v1285 : BitVec 1 := Scalar.cmpi .slt v1281 c0_i32_783
  let v1286 : BitVec 1 := Scalar.xori v1284 v1285
  let c0_i32_781 : BitVec 32 := 0#32
  let v1283 : BitVec 1 := Scalar.cmpi .ne v1282 c0_i32_781
  let v1287 : BitVec 1 := Scalar.andi v1286 v1283
  let v1288 : BitVec 32 := Scalar.addi v1282 v1281
  let v1289 : BitVec 32 := Scalar.select v1287 v1288 v1282
  let c1_i32_788 : BitVec 32 := 1#32
  let v1299 : BitVec 32 := Scalar.muli v1289 c1_i32_788
  let v1300 : BitVec 32 := Scalar.addi c0_i32_789 v1299
  v1300.toNat
def k0_dev61 (d0 : Dev nD) : Nat :=
  let c0_i32_806 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_794 : BitVec 32 := 30#32
  let v1309 : BitVec 32 := Scalar.addi v2 c30_i32_794
  let c32_i32_795 : BitVec 32 := 32#32
  let c0_i32_796 : BitVec 32 := 0#32
  let v1310 : BitVec 1 := Scalar.cmpi .eq c32_i32_795 c0_i32_796
  let c1_i32_797 : BitVec 32 := 1#32
  let v1311 : BitVec 32 := Scalar.select v1310 c1_i32_797 c32_i32_795
  let v1312 : BitVec 32 := Scalar.remsi v1309 v1311
  let c0_i32_799 : BitVec 32 := 0#32
  let v1314 : BitVec 1 := Scalar.cmpi .slt v1312 c0_i32_799
  let c0_i32_800 : BitVec 32 := 0#32
  let v1315 : BitVec 1 := Scalar.cmpi .slt v1311 c0_i32_800
  let v1316 : BitVec 1 := Scalar.xori v1314 v1315
  let c0_i32_798 : BitVec 32 := 0#32
  let v1313 : BitVec 1 := Scalar.cmpi .ne v1312 c0_i32_798
  let v1317 : BitVec 1 := Scalar.andi v1316 v1313
  let v1318 : BitVec 32 := Scalar.addi v1312 v1311
  let v1319 : BitVec 32 := Scalar.select v1317 v1318 v1312
  let c1_i32_805 : BitVec 32 := 1#32
  let v1329 : BitVec 32 := Scalar.muli v1319 c1_i32_805
  let v1330 : BitVec 32 := Scalar.addi c0_i32_806 v1329
  v1330.toNat
def k0_dev62 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_811 : BitVec 32 := 31#32
  let v1339 : BitVec 32 := Scalar.addi v2 c31_i32_811
  let c32_i32_812 : BitVec 32 := 32#32
  let c0_i32_813 : BitVec 32 := 0#32
  let v1340 : BitVec 1 := Scalar.cmpi .eq c32_i32_812 c0_i32_813
  let c1_i32_814 : BitVec 32 := 1#32
  let v1341 : BitVec 32 := Scalar.select v1340 c1_i32_814 c32_i32_812
  let v1342 : BitVec 32 := Scalar.remsi v1339 v1341
  let c0_i32_816 : BitVec 32 := 0#32
  let v1344 : BitVec 1 := Scalar.cmpi .slt v1342 c0_i32_816
  let c0_i32_817 : BitVec 32 := 0#32
  let v1345 : BitVec 1 := Scalar.cmpi .slt v1341 c0_i32_817
  let v1346 : BitVec 1 := Scalar.xori v1344 v1345
  let c0_i32_815 : BitVec 32 := 0#32
  let v1343 : BitVec 1 := Scalar.cmpi .ne v1342 c0_i32_815
  let v1347 : BitVec 1 := Scalar.andi v1346 v1343
  let v1348 : BitVec 32 := Scalar.addi v1342 v1341
  let v1349 : BitVec 32 := Scalar.select v1347 v1348 v1342
  let c1_i32_822 : BitVec 32 := 1#32
  let v1359 : BitVec 32 := Scalar.muli v1349 c1_i32_822
  let v1360 : BitVec 32 := Scalar.addi c0_i32_823 v1359
  v1360.toNat
def k0_off11 (d0 : Dev nD) (c0_i32_828 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1369 : BitVec 32 := Scalar.subi v2 c0_i32_828
  let c32_i32_829 : BitVec 32 := 32#32
  let c0_i32_830 : BitVec 32 := 0#32
  let v1370 : BitVec 1 := Scalar.cmpi .eq c32_i32_829 c0_i32_830
  let c1_i32_831 : BitVec 32 := 1#32
  let v1371 : BitVec 32 := Scalar.select v1370 c1_i32_831 c32_i32_829
  let v1372 : BitVec 32 := Scalar.remsi v1369 v1371
  let c0_i32_833 : BitVec 32 := 0#32
  let v1374 : BitVec 1 := Scalar.cmpi .slt v1372 c0_i32_833
  let c0_i32_834 : BitVec 32 := 0#32
  let v1375 : BitVec 1 := Scalar.cmpi .slt v1371 c0_i32_834
  let v1376 : BitVec 1 := Scalar.xori v1374 v1375
  let c0_i32_832 : BitVec 32 := 0#32
  let v1373 : BitVec 1 := Scalar.cmpi .ne v1372 c0_i32_832
  let v1377 : BitVec 1 := Scalar.andi v1376 v1373
  let v1378 : BitVec 32 := Scalar.addi v1372 v1371
  let v1379 : BitVec 32 := Scalar.select v1377 v1378 v1372
  let v1386 : Index := Scalar.indexCast v1379
  let c0_841 : Index := 0#32
  let c0_842 : Index := 0#32
  ![v1386.toNat, 0, 0]
def k0_off12 (d0 : Dev nD) (c1_i32_861 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1411 : BitVec 32 := Scalar.subi v2 c1_i32_861
  let c32_i32_862 : BitVec 32 := 32#32
  let c0_i32_863 : BitVec 32 := 0#32
  let v1412 : BitVec 1 := Scalar.cmpi .eq c32_i32_862 c0_i32_863
  let c1_i32_864 : BitVec 32 := 1#32
  let v1413 : BitVec 32 := Scalar.select v1412 c1_i32_864 c32_i32_862
  let v1414 : BitVec 32 := Scalar.remsi v1411 v1413
  let c0_i32_866 : BitVec 32 := 0#32
  let v1416 : BitVec 1 := Scalar.cmpi .slt v1414 c0_i32_866
  let c0_i32_867 : BitVec 32 := 0#32
  let v1417 : BitVec 1 := Scalar.cmpi .slt v1413 c0_i32_867
  let v1418 : BitVec 1 := Scalar.xori v1416 v1417
  let c0_i32_865 : BitVec 32 := 0#32
  let v1415 : BitVec 1 := Scalar.cmpi .ne v1414 c0_i32_865
  let v1419 : BitVec 1 := Scalar.andi v1418 v1415
  let v1420 : BitVec 32 := Scalar.addi v1414 v1413
  let v1421 : BitVec 32 := Scalar.select v1419 v1420 v1414
  ![v1421.toNat]
def k0_off13 (d0 : Dev nD) (c1_i32_861 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1411 : BitVec 32 := Scalar.subi v2 c1_i32_861
  let c32_i32_862 : BitVec 32 := 32#32
  let c0_i32_863 : BitVec 32 := 0#32
  let v1412 : BitVec 1 := Scalar.cmpi .eq c32_i32_862 c0_i32_863
  let c1_i32_864 : BitVec 32 := 1#32
  let v1413 : BitVec 32 := Scalar.select v1412 c1_i32_864 c32_i32_862
  let v1414 : BitVec 32 := Scalar.remsi v1411 v1413
  let c0_i32_866 : BitVec 32 := 0#32
  let v1416 : BitVec 1 := Scalar.cmpi .slt v1414 c0_i32_866
  let c0_i32_867 : BitVec 32 := 0#32
  let v1417 : BitVec 1 := Scalar.cmpi .slt v1413 c0_i32_867
  let v1418 : BitVec 1 := Scalar.xori v1416 v1417
  let c0_i32_865 : BitVec 32 := 0#32
  let v1415 : BitVec 1 := Scalar.cmpi .ne v1414 c0_i32_865
  let v1419 : BitVec 1 := Scalar.andi v1418 v1415
  let v1420 : BitVec 32 := Scalar.addi v1414 v1413
  let v1421 : BitVec 32 := Scalar.select v1419 v1420 v1414
  let c0_i32_872 : BitVec 32 := 0#32
  let c0_i32_873 : BitVec 32 := 0#32
  ![v1421.toNat, 0, 0]
abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/-
  The kernel body as loops. The printed body is a straight line of some three hundred and fifty operations: the source's
  Python loops, unrolled. This module writes the same line as loops over a STEP each — a handshake signal, a send, a
  product, a wait for a send; `BodyEq` proves the printed body equal to it.
-/
module

public import proofs.«01_k».proof.Proof.Gen.KernelIdeal.Skeleton

@[expose] public section

noncomputable section

namespace Cert.A2A

open Cert.KernelIdeal Cert.KernelIdeal.Gen
open Idealize.ShloMosaic Idealize.SL.Sem

variable {F : FTy → Type} [FloatOps F]

/-! ## The buffers and semaphores -/

abbrev xM : Memref sig .tc .vmem S8192x256 .f32 := Memref.whole cc0_stg0_0
abbrev wM : Memref sig .tc .hbm S8192x4096 .f32 := Memref.whole main_arg1
abbrev oM : Memref sig .tc .vmem S256x4096 .f32 := Memref.whole cc0_stg1_0
abbrev sM : Memref sig .tc .vmem S32x256x256 .bf16 := Memref.whole cc0_scratch0
abbrev tM : Memref sig .tc .vmem S32x256x256 .bf16 := Memref.whole cc0_scratch1
abbrev vM : Memref sig .tc .vmem S2x256x4096 .f32 := Memref.whole cc0_scratch2
abbrev sW : sM.IsWhole := Memref.isWhole_whole _
abbrev tW : tM.IsWhole := Memref.isWhole_whole _

abbrev barS : Sem sig := (SemArray.scalar (sig.barrier 0 rfl) : Sems sig S_).sem

/-! ## The peer a step addresses, as the kernel computes it from a distance -/

/-- The logical id of the device `w` places after `c` on the ring of 32, by the kernel's own arithmetic. -/
def peerW (c : Dev nD) (w : BitVec 32) : Nat :=
  let v2 : BitVec 32 := Scalar.remsi (Scalar.divsi (Dev.word c) 1#32) 32#32
  let n : BitVec 32 := Scalar.select (Scalar.cmpi .eq 32#32 0#32) 1#32 32#32
  let q : BitVec 32 := Scalar.remsi (Scalar.addi v2 w) n
  let s : BitVec 32 := Scalar.select
    (Scalar.andi (Scalar.xori (Scalar.cmpi .slt q 0#32) (Scalar.cmpi .slt n 0#32)) (Scalar.cmpi .ne q 0#32)) (Scalar.addi q n) q
  (Scalar.addi 0#32 (Scalar.muli s 1#32)).toNat

theorem peerW_eq : ∀ (c : Dev nD) (r : Fin 31), peerW c (BitVec.ofNat 32 (1 + r.val)) = (c.val + (r.val + 1)) % 32 := by decide +kernel

theorem peerW_lt (c : Dev nD) (r : Fin 31) : peerW c (BitVec.ofNat 32 (1 + r.val)) < nD := by
  rw [peerW_eq]; exact Nat.mod_lt _ (by decide)

/-- The device `r + 1` places after `c`. -/
def peer (c : Dev nD) (r : Fin 31) : Dev nD := ⟨peerW c (BitVec.ofNat 32 (1 + r.val)), peerW_lt c r⟩

/-! ## The views the steps use -/

section Views
variable (c : Dev nD)

/-- Slot `b` of the streamed operand's two. -/
theorem slotW_inb (b : Fin 2) : ∀ a, (![b.val, 0, 0] : Fin 3 → Nat) a + S1x256x4096.size a ≤ S2x256x4096.size a := by revert b; decide
def rectW (b : Fin 2) : Rect S2x256x4096 := Rect.unit (s := S2x256x4096) ![b.val, 0, 0] S1x256x4096.size (slotW_inb b)
theorem semW_inb (b : Fin 2) : ∀ a, (![b.val] : Fin 1 → Nat) a + S1.size a ≤ S2.size a := by revert b; decide

abbrev slotW (b : Fin 2) : Memref sig .tc .vmem S256x4096 .f32 :=
  (vM.slice (Rect.unit (s := S2x256x4096) ![b.val, 0, 0] S1x256x4096.size (slotW_inb b)) (fun _ => rfl)).squeeze S256x4096 squeezes_S1x256x4096_S256x4096
abbrev semW (b : Fin 2) : DmaSem sig :=
  ((cc0_scratch5.slice (Rect.unit (s := S2) ![b.val] S1.size (semW_inb b))).squeeze S_ squeezes_S1_S_).sem

/-- The rows of `w` for the source `d` places before `c`. -/
abbrev rowsW (d : Fin 32) : Memref sig .tc .hbm S256x4096 .f32 :=
  wM.slice (Rect.unit (s := S8192x4096) (k0_off2 c (BitVec.ofNat 32 d.val)) S256x4096.size (k0_off2_inb c d)) (fun _ => rfl)
/-- The rows of `w` for `c` itself, as the first copy names them. -/
abbrev rowsW0 : Memref sig .tc .hbm S256x4096 .f32 :=
  wM.slice (Rect.unit (s := S8192x4096) (k0_off1 c) S256x4096.size (k0_off1_inb c)) (fun _ => rfl)

/-- The block to send `r + 1` places on, in the sending scratch; its send semaphore. -/
abbrev sendV (r : Fin 31) : Memref sig .tc .vmem S256x256 .bf16 :=
  (sM.slice (Rect.unit (s := S32x256x256) (k0_off10 c (BitVec.ofNat 32 (1 + r.val))) S1x256x256.size (k0_off10_inb c r)) (fun _ => rfl)).squeeze S256x256 squeezes_S1x256x256_S256x256
abbrev sendSem (r : Fin 31) : DmaSem sig :=
  ((cc0_scratch3.slice (Rect.unit (s := S32) (k0_off7 c (BitVec.ofNat 32 (1 + r.val))) S1.size (k0_off7_inb c r))).squeeze S_ squeezes_S1_S_).sem

/-- The slot `c`'s block lands in, on every peer; the semaphore its landing credits there. -/
abbrev landV : Memref sig .tc .vmem S256x256 .bf16 :=
  (tM.slice (Rect.unit (s := S32x256x256) (k0_off9 c) S1x256x256.size (k0_off9_inb c)) (fun _ => rfl)).squeeze S256x256 squeezes_S1x256x256_S256x256
abbrev landSem : DmaSem sig :=
  ((cc0_scratch4.slice (Rect.unit (s := S32) (k0_off8 c) S1.size (k0_off8_inb c))).squeeze S_ squeezes_S1_S_).sem

/-- The slot and semaphore the block of the device `r + 1` places before `c` lands in and credits, on `c`. -/
abbrev recvV (r : Fin 31) : Memref sig .tc .vmem S256x256 .bf16 :=
  (tM.slice (Rect.unit (s := S32x256x256) (k0_off13 c (BitVec.ofNat 32 (1 + r.val))) S1x256x256.size (k0_off13_inb c r)) (fun _ => rfl)).squeeze S256x256 squeezes_S1x256x256_S256x256
abbrev recvSem (r : Fin 31) : DmaSem sig :=
  ((cc0_scratch4.slice (Rect.unit (s := S32) (k0_off12 c (BitVec.ofNat 32 (1 + r.val))) S1.size (k0_off12_inb c r))).squeeze S_ squeezes_S1_S_).sem

/-- The first slot of the sending scratch: the source a receive's wait names, for its size only. -/
abbrev nameV : Memref sig .tc .vmem S256x256 .bf16 :=
  (sM.slice (Rect.unit (s := S32x256x256) ![0, 0, 0] S1x256x256.size inb_S32x256x256_S1x256x256_0_0_0) (fun _ => rfl)).squeeze S256x256 squeezes_S1x256x256_S256x256

abbrev rectX0 : Rect S8192x256 := Rect.unit (s := S8192x256) (k0_off3 c) S256x256.size (k0_off3_inb c)
abbrev rectX (r : Fin 31) : Rect S8192x256 := Rect.unit (s := S8192x256) (k0_off5 c (BitVec.ofNat 32 (1 + r.val))) S256x256.size (k0_off5_inb c r)
abbrev rectT0 : Rect S32x256x256 := Rect.unit (s := S32x256x256) (k0_off4 c) S1x256x256.size (k0_off4_inb c)
abbrev rectT (d : Fin 32) : Rect S32x256x256 := Rect.unit (s := S32x256x256) (k0_off11 c (BitVec.ofNat 32 d.val)) S1x256x256.size (k0_off11_inb c d)
abbrev rectS (r : Fin 31) : Rect S32x256x256 := Rect.unit (s := S32x256x256) (k0_off6 c (BitVec.ofNat 32 (1 + r.val))) S1x256x256.size (k0_off6_inb c r)
abbrev rectO : Rect S256x4096 := Rect.unit (s := S256x4096) ![0, 0] S256x4096.size inb_S256x4096_S256x4096_0_0

end Views

/-! ## The payloads -/

/-- A block of `x`, narrowed, as the body stores it. -/
abbrev packed (v : Vec F S256x256 .f32) : FVec F S1x256x256 .bf16 := k0_pay2 v
/-- A block times its rows of `w`. -/
abbrev prod (t : Vec F S1x256x256 .bf16) (w : Vec F S1x256x4096 .f32) : FVec F S256x4096 .f32 := k0_pay39 t w
/-- The running sum and one more such product. -/
abbrev accum (t : Vec F S1x256x256 .bf16) (w : Vec F S1x256x4096 .f32) (o : Vec F S256x4096 .f32) : FVec F S256x4096 .f32 := k0_pay40 t w o
/-- The activation. -/
abbrev gelu (o : Vec F S256x4096 .f32) : FVec F S256x4096 .f32 := k0_pay1 o

/-! ## The steps -/

abbrev TEff (F : FTy → Type) : Type → Type := TpuEff nD τ sig (Elt F) Λ₀ .tc

/-- `n` steps in a row. -/
def seqFrom {n : ℕ} (step : Fin n → Prog (TEff F) PUnit) : (k i : ℕ) → i + k = n → Prog (TEff F) PUnit
  | 0, _, _ => .ret ⟨⟩
  | k + 1, i, h => (step ⟨i, by omega⟩).bind fun _ => seqFrom step k (i + 1) (by omega)

abbrev seqAll {n : ℕ} (step : Fin n → Prog (TEff F) PUnit) : Prog (TEff F) PUnit := seqFrom step n 0 (Nat.zero_add n)

variable (c : Dev nD)

def sigStep (r : Fin 31) : Prog (TEff F) PUnit := semSignalWord (peer c r) barS 1#32

def startW0 : Prog (TEff F) PUnit :=
  .op (.enqueueDma (rowsW0 c) (.here (slotW 0)) (.dma (semW 0)) (View.wordExact_bits rfl) ((View.wordExact_bits rfl).reshape _ _) ⟨Or.inl rfl, trivial⟩) .ret
def startW (d : Fin 32) (b : Fin 2) : Prog (TEff F) PUnit :=
  .op (.enqueueDma (rowsW c d) (.here (slotW b)) (.dma (semW b)) (View.wordExact_bits rfl) ((View.wordExact_bits rfl).reshape _ _) ⟨Or.inl rfl, trivial⟩) .ret

/-- The device's own block, put where its product will read it. -/
def ownStep : Prog (TEff F) PUnit :=
  .op (.load xM (rectX0 c).toLoadRect (View.loadsAt_vmem h_S256x256)) fun (v : Vec F S256x256 .f32) =>
  .op (.load tM (rectT0 c).toLoadRect (View.loadsAt_vmem h_S1x256x256)) fun _ =>
  .op (.store tM (rectT0 c) (packed v) Finset.univ (View.stores_vmem h_S1x256x256 (tW.storeExact_slice rfl _ (k0_off4_packedbf16 c)) (fun _ => rfl)) (.inl rfl)) .ret

/-- One block narrowed into the sending scratch and sent. -/
def sendStep (r : Fin 31) : Prog (TEff F) PUnit :=
  .op (.load xM (rectX c r).toLoadRect (View.loadsAt_vmem h_S256x256)) fun (v : Vec F S256x256 .f32) =>
  .op (.load sM (rectS c r).toLoadRect (View.loadsAt_vmem h_S1x256x256)) fun _ =>
  .op (.store sM (rectS c r) (packed v) Finset.univ (View.stores_vmem h_S1x256x256 (sW.storeExact_slice rfl _ (k0_off6_packedbf16 c r)) (fun _ => rfl)) (.inl rfl)) fun _ =>
  .op (.enqueueDma (sendV c r) (.remote (Dev.tc (peer c r)) (landV c) (.dma (sendSem c r))) (.dma (landSem c))
    ((sW.wordExact_slice rfl _ (k0_off10_wordsbf16 c r)).reshape _ _) ((tW.wordExact_slice rfl _ (k0_off9_wordsbf16 c)).reshape _ _) ⟨⟨rfl, Or.inl rfl⟩, trivial⟩) .ret

def waitRecv (r : Fin 31) : Prog (TEff F) PUnit :=
  .op (.waitDma2 (recvSem c r) nameV (recvV c r) ((sW.wordExact_slice rfl _ wordsbf16_S32x256x256_S1x256x256_0_0_0).reshape _ _)
    ((tW.wordExact_slice rfl _ (k0_off13_wordsbf16 c r)).reshape _ _)) .ret
def waitW (d : Fin 32) (b : Fin 2) : Prog (TEff F) PUnit :=
  .op (.waitDma2 (semW b) (rowsW c d) (slotW b) (View.wordExact_bits rfl) ((View.wordExact_bits rfl).reshape _ _)) .ret

/-- The first product: the device's own block. -/
def prod0 : Prog (TEff F) PUnit :=
  .op (.load tM (rectT c 0).toLoadRect (View.loadsAt_vmem h_S1x256x256)) fun (t : Vec F S1x256x256 .bf16) =>
  .op (.load vM (Rect.unit (s := S2x256x4096) ![(0 : Fin 2).val, 0, 0] S1x256x4096.size (slotW_inb 0)).toLoadRect (View.loadsAt_vmem h_S1x256x4096)) fun (w : Vec F S1x256x4096 .f32) =>
  .op (.load oM rectO.toLoadRect (View.loadsAt_vmem h_S256x4096)) fun _ =>
  .op (.store oM rectO (prod t w) Finset.univ (View.stores_vmem_bits_univ h_S256x4096 rfl) (.inl rfl)) .ret

/-- A later product, added to the running sum. -/
def prodAcc (d : Fin 32) (b : Fin 2) : Prog (TEff F) PUnit :=
  .op (.load tM (rectT c d).toLoadRect (View.loadsAt_vmem h_S1x256x256)) fun (t : Vec F S1x256x256 .bf16) =>
  .op (.load vM (Rect.unit (s := S2x256x4096) ![b.val, 0, 0] S1x256x4096.size (slotW_inb b)).toLoadRect (View.loadsAt_vmem h_S1x256x4096)) fun (w : Vec F S1x256x4096 .f32) =>
  .op (.load oM rectO.toLoadRect (View.loadsAt_vmem h_S256x4096)) fun (o : Vec F S256x4096 .f32) =>
  .op (.load oM rectO.toLoadRect (View.loadsAt_vmem h_S256x4096)) fun _ =>
  .op (.store oM rectO (accum t w o) Finset.univ (View.stores_vmem_bits_univ h_S256x4096 rfl) (.inl rfl)) .ret

/-- Which of the two slots step `d` uses. -/
def par (d : ℕ) : Fin 2 := ⟨d % 2, Nat.mod_lt _ (by decide)⟩

/-- Step `r + 1` of the product loop, its successor copy not included. -/
def coreStep (r : Fin 31) : Prog (TEff F) PUnit :=
  (waitRecv c r).bind fun _ => (waitW c r.succ (par (r.val + 1))).bind fun _ => prodAcc c r.succ (par (r.val + 1))

/-- Step `r + 1` with the start of the copy two steps on. -/
def midStep (r : Fin 29) : Prog (TEff F) PUnit :=
  (coreStep c ⟨r.val, by omega⟩).bind fun _ => startW c ⟨r.val + 3, by omega⟩ (par (r.val + 3))

def waitSend (r : Fin 31) : Prog (TEff F) PUnit :=
  .op (.waitDma2 (sendSem c r) (landV c) (sendV c r) ((tW.wordExact_slice rfl _ (k0_off9_wordsbf16 c)).reshape _ _)
    ((sW.wordExact_slice rfl _ (k0_off10_wordsbf16 c r)).reshape _ _)) .ret

def geluStep : Prog (TEff F) PUnit :=
  .op (.load oM rectO.toLoadRect (View.loadsAt_vmem h_S256x4096)) fun (o : Vec F S256x4096 .f32) =>
  .op (.load oM rectO.toLoadRect (View.loadsAt_vmem h_S256x4096)) fun _ =>
  .op (.store oM rectO (gelu o) Finset.univ (View.stores_vmem_bits_univ h_S256x4096 rfl) (.inl rfl)) .ret

/-- The body on device `c`. -/
def bodyAt : Prog (TEff F) PUnit :=
  (seqAll (sigStep c)).bind fun _ => (semWaitWord barS 31#32).bind fun _ =>
  (startW0 c).bind fun _ => (startW c 1 1).bind fun _ => (ownStep c).bind fun _ =>
  (seqAll (sendStep c)).bind fun _ =>
  (waitW c 0 0).bind fun _ => (prod0 c).bind fun _ => (startW c 2 0).bind fun _ =>
  (seqAll (midStep c)).bind fun _ => (coreStep c 29).bind fun _ => (coreStep c 30).bind fun _ =>
  (seqAll (waitSend c)).bind fun _ => geluStep

end Cert.A2A

end
-- ==== Proof.Canon.lean ====
/-
  The buffers' slots and semaphores named by DEVICE. The steps name a slot by the word arithmetic of the source; here each
  is shown to be the slot, row block or semaphore of one device: the peer a step sends to, or the source a step receives
  from.
-/
module

public import proofs.«01_k».proof.Proof.Steps

@[expose] public section

noncomputable section

namespace Cert.A2A

open Cert.KernelIdeal Cert.KernelIdeal.Gen
open Idealize.ShloMosaic Idealize.SL.Sem

/-! ## The devices a step meets -/

set_option backward.proofsInPublic true in
/-- The device `d` places before `c`: the source whose block step `d` multiplies. -/
def src (c : Dev nD) (d : Fin 32) : Dev nD := ⟨(c.val + (32 - d.val)) % 32, Nat.mod_lt _ (by decide)⟩

theorem peer_val (c : Dev nD) (r : Fin 31) : (peer c r).val = (c.val + (r.val + 1)) % 32 := peerW_eq c r
theorem src_val (c : Dev nD) (d : Fin 32) : (src c d).val = (c.val + (32 - d.val)) % 32 := rfl
theorem dev_lt (c : Dev nD) : c.val < 32 := c.isLt
theorem src_zero (c : Dev nD) : src c 0 = c := Fin.ext (by
  have := dev_lt c; rw [src_val, show ((0 : Fin 32) : ℕ) = 0 from rfl]; omega)
theorem peer_ne (c : Dev nD) (r : Fin 31) : peer c r ≠ c := fun h => by
  have := congrArg Fin.val h; have := dev_lt c; have := r.isLt; rw [peer_val] at *; omega
theorem src_ne (c : Dev nD) (r : Fin 31) : src c r.succ ≠ c := fun h => by
  have := congrArg Fin.val h; have := dev_lt c; have := r.isLt; rw [src_val, Fin.val_succ] at *; omega
theorem peer_inj (c : Dev nD) : Function.Injective (peer c) := fun r r' h => Fin.ext (by
  have h := congrArg Fin.val h; rw [peer_val, peer_val] at h; have := dev_lt c; omega)
theorem src_inj (c : Dev nD) : Function.Injective (src c) := fun r r' h => Fin.ext (by
  have h := congrArg Fin.val h; rw [src_val, src_val] at h; have := dev_lt c; omega)
theorem src_peer (c : Dev nD) (r : Fin 31) : src (peer c r) r.succ = c := Fin.ext (by
  rw [src_val, peer_val, Fin.val_succ]; have := dev_lt c; omega)
theorem peer_src (c : Dev nD) (r : Fin 31) : peer (src c r.succ) r = c := Fin.ext (by
  rw [peer_val, src_val, Fin.val_succ]; have := dev_lt c; omega)

/-- Every other device is a peer, -/
theorem image_peer (c : Dev nD) : (Finset.univ : Finset (Fin 31)).image (peer c) = Finset.univ.erase c := by
  refine Finset.eq_of_subset_of_card_le (fun d hd => ?_) ?_
  · obtain ⟨r, -, rfl⟩ := Finset.mem_image.mp hd
    exact Finset.mem_erase.mpr ⟨peer_ne c r, Finset.mem_univ _⟩
  · rw [Finset.card_image_of_injective _ (peer_inj c), Finset.card_erase_of_mem (Finset.mem_univ _)]
    exact le_of_eq (by simp [nD])
/-- and a source. -/
theorem image_src (c : Dev nD) : (Finset.univ : Finset (Fin 31)).image (fun r => src c r.succ) = Finset.univ.erase c := by
  refine Finset.eq_of_subset_of_card_le (fun d hd => ?_) ?_
  · obtain ⟨r, -, rfl⟩ := Finset.mem_image.mp hd
    exact Finset.mem_erase.mpr ⟨src_ne c r, Finset.mem_univ _⟩
  · rw [Finset.card_image_of_injective _ (fun a b h => Fin.succ_injective _ (src_inj c h)), Finset.card_erase_of_mem (Finset.mem_univ _)]
    exact le_of_eq (by simp [nD])

/-! ## The offsets, in closed form -/

theorem off1 : ∀ c : Dev nD, k0_off1 c = ![256 * c.val, 0] := by decide +kernel
theorem off2 : ∀ (c : Dev nD) (d : Fin 32), k0_off2 c (BitVec.ofNat 32 d.val) = ![256 * (src c d).val, 0] := by decide +kernel
theorem off3 : ∀ c : Dev nD, k0_off3 c = ![256 * c.val, 0] := by decide +kernel
theorem off4 : ∀ c : Dev nD, k0_off4 c = ![c.val, 0, 0] := by decide +kernel
theorem off5 : ∀ (c : Dev nD) (r : Fin 31), k0_off5 c (BitVec.ofNat 32 (1 + r.val)) = ![256 * (peer c r).val, 0] := by decide +kernel
theorem off6 : ∀ (c : Dev nD) (r : Fin 31), k0_off6 c (BitVec.ofNat 32 (1 + r.val)) = ![(peer c r).val, 0, 0] := by decide +kernel
theorem off7 : ∀ (c : Dev nD) (r : Fin 31), k0_off7 c (BitVec.ofNat 32 (1 + r.val)) = ![(peer c r).val] := by decide +kernel
theorem off8 : ∀ c : Dev nD, k0_off8 c = ![c.val] := by decide +kernel
theorem off9 : ∀ c : Dev nD, k0_off9 c = ![c.val, 0, 0] := by decide +kernel
theorem off10 : ∀ (c : Dev nD) (r : Fin 31), k0_off10 c (BitVec.ofNat 32 (1 + r.val)) = ![(peer c r).val, 0, 0] := by decide +kernel
theorem off11 : ∀ (c : Dev nD) (d : Fin 32), k0_off11 c (BitVec.ofNat 32 d.val) = ![(src c d).val, 0, 0] := by decide +kernel
theorem off12 : ∀ (c : Dev nD) (r : Fin 31), k0_off12 c (BitVec.ofNat 32 (1 + r.val)) = ![(src c r.succ).val] := by decide +kernel
theorem off13 : ∀ (c : Dev nD) (r : Fin 31), k0_off13 c (BitVec.ofNat 32 (1 + r.val)) = ![(src c r.succ).val, 0, 0] := by decide +kernel

/-! ## One device's slot, rows and semaphores -/

theorem slot_inb (s : Dev nD) : ∀ a, (![s.val, 0, 0] : Fin 3 → Nat) a + S1x256x256.size a ≤ S32x256x256.size a := by revert s; decide +kernel
theorem rowX_inb (s : Dev nD) : ∀ a, (![256 * s.val, 0] : Fin 2 → Nat) a + S256x256.size a ≤ S8192x256.size a := by revert s; decide +kernel
theorem rowW_inb (s : Dev nD) : ∀ a, (![256 * s.val, 0] : Fin 2 → Nat) a + S256x4096.size a ≤ S8192x4096.size a := by revert s; decide +kernel
theorem sem_inb (s : Dev nD) : ∀ a, (![s.val] : Fin 1 → Nat) a + S1.size a ≤ S32.size a := by revert s; decide +kernel

/-- Slot `s` of a scratch of 32. -/
def rSlot (s : Dev nD) : Rect S32x256x256 := Rect.unit (s := S32x256x256) ![s.val, 0, 0] S1x256x256.size (slot_inb s)
/-- The rows of a device's part of `x` that are meant for device `s`. -/
def rRows (s : Dev nD) : Rect S8192x256 := Rect.unit (s := S8192x256) ![256 * s.val, 0] S256x256.size (rowX_inb s)
def slotS (s : Dev nD) : Memref sig .tc .vmem S256x256 .bf16 :=
  (sM.slice (Rect.unit (s := S32x256x256) ![s.val, 0, 0] S1x256x256.size (slot_inb s)) (fun _ => rfl)).squeeze S256x256 squeezes_S1x256x256_S256x256
def slotT (s : Dev nD) : Memref sig .tc .vmem S256x256 .bf16 :=
  (tM.slice (Rect.unit (s := S32x256x256) ![s.val, 0, 0] S1x256x256.size (slot_inb s)) (fun _ => rfl)).squeeze S256x256 squeezes_S1x256x256_S256x256
/-- The rows of `w` that multiply device `s`'s block. -/
def rowsOf (s : Dev nD) : Memref sig .tc .hbm S256x4096 .f32 :=
  wM.slice (Rect.unit (s := S8192x4096) ![256 * s.val, 0] S256x4096.size (rowW_inb s)) (fun _ => rfl)
def semS (s : Dev nD) : DmaSem sig := ((cc0_scratch3.slice (Rect.unit (s := S32) ![s.val] S1.size (sem_inb s))).squeeze S_ squeezes_S1_S_).sem
def semR (s : Dev nD) : DmaSem sig := ((cc0_scratch4.slice (Rect.unit (s := S32) ![s.val] S1.size (sem_inb s))).squeeze S_ squeezes_S1_S_).sem

section Eqs
variable (c : Dev nD)

theorem unit_congr {s : Shape} {o o' : Fin s.rank → Nat} {z : Fin s.rank → Nat} (h : o = o') (p : ∀ a, o a + z a ≤ s.size a) (p' : ∀ a, o' a + z a ≤ s.size a) :
    Rect.unit (s := s) o z p = Rect.unit (s := s) o' z p' := by subst h; rfl
theorem slotS_of {o : Fin 3 → Nat} {s : Dev nD} (h : o = ![s.val, 0, 0]) (p) :
    (sM.slice (Rect.unit (s := S32x256x256) o S1x256x256.size p) (fun _ => rfl)).squeeze S256x256 squeezes_S1x256x256_S256x256 = slotS s := by subst h; rfl
theorem slotT_of {o : Fin 3 → Nat} {s : Dev nD} (h : o = ![s.val, 0, 0]) (p) :
    (tM.slice (Rect.unit (s := S32x256x256) o S1x256x256.size p) (fun _ => rfl)).squeeze S256x256 squeezes_S1x256x256_S256x256 = slotT s := by subst h; rfl
theorem rowsOf_of {o : Fin 2 → Nat} {s : Dev nD} (h : o = ![256 * s.val, 0]) (p) :
    wM.slice (Rect.unit (s := S8192x4096) o S256x4096.size p) (fun _ => rfl) = rowsOf s := by subst h; rfl
theorem semS_of {o : Fin 1 → Nat} {s : Dev nD} (h : o = ![s.val]) (p) :
    ((cc0_scratch3.slice (Rect.unit (s := S32) o S1.size p)).squeeze S_ squeezes_S1_S_).sem = semS s := by subst h; rfl
theorem semR_of {o : Fin 1 → Nat} {s : Dev nD} (h : o = ![s.val]) (p) :
    ((cc0_scratch4.slice (Rect.unit (s := S32) o S1.size p)).squeeze S_ squeezes_S1_S_).sem = semR s := by subst h; rfl

theorem rowsW_eq (d : Fin 32) : rowsW c d = rowsOf (src c d) := rowsOf_of (off2 c d) _
theorem rowsW0_eq : rowsW0 c = rowsOf c := rowsOf_of (off1 c) _
theorem sendV_eq (r : Fin 31) : sendV c r = slotS (peer c r) := slotS_of (off10 c r) _
theorem landV_eq : landV c = slotT c := slotT_of (off9 c) _
theorem recvV_eq (r : Fin 31) : recvV c r = slotT (src c r.succ) := slotT_of (off13 c r) _
theorem sendSem_eq (r : Fin 31) : sendSem c r = semS (peer c r) := semS_of (off7 c r) _
theorem landSem_eq : landSem c = semR c := semR_of (off8 c) _
theorem recvSem_eq (r : Fin 31) : recvSem c r = semR (src c r.succ) := semR_of (off12 c r) _
theorem rectX0_eq : rectX0 c = rRows c := unit_congr (off3 c) _ _
theorem rectX_eq (r : Fin 31) : rectX c r = rRows (peer c r) := unit_congr (off5 c r) _ _
theorem rectT0_eq : rectT0 c = rSlot c := unit_congr (off4 c) _ _
theorem rectT_eq (d : Fin 32) : rectT c d = rSlot (src c d) := unit_congr (off11 c d) _ _
theorem rectS_eq (r : Fin 31) : rectS c r = rSlot (peer c r) := unit_congr (off6 c r) _ _

end Eqs

/-! ## The elements of a slot -/

theorem set_slotS (s : Dev nD) : (slotS s).view.set = (rSlot s).set := by
  exact (View.set_reshape _ _).trans (View.set_slice_whole _ _)
theorem set_slotT (s : Dev nD) : (slotT s).view.set = (rSlot s).set := by
  exact (View.set_reshape _ _).trans (View.set_slice_whole _ _)
theorem set_slotW (b : Fin 2) : (slotW b).view.set = (rectW b).set := by
  exact (View.set_reshape _ _).trans (View.set_slice_whole _ _)

theorem mem_rSlot {s : Dev nD} {i : S32x256x256.Idx} : i ∈ (rSlot s).set ↔ (i (0 : Fin 3)).val = s.val := by
  unfold rSlot; rw [Rect.mem_set_unit]
  constructor
  · intro h; have := h (0 : Fin 3); simp at this; omega
  · intro h a
    have h1 := (i (1 : Fin 3)).isLt; have h2 := (i (2 : Fin 3)).isLt
    fin_cases a
    · simp; omega
    · simp; exact h1
    · simp; exact h2
theorem mem_rectW {b : Fin 2} {i : S2x256x4096.Idx} : i ∈ (rectW b).set ↔ (i (0 : Fin 3)).val = b.val := by
  unfold rectW; rw [Rect.mem_set_unit]
  constructor
  · intro h; have := h (0 : Fin 3); simp at this; omega
  · intro h a
    have h1 := (i (1 : Fin 3)).isLt; have h2 := (i (2 : Fin 3)).isLt
    fin_cases a
    · simp; omega
    · simp; exact h1
    · simp; exact h2

theorem rSlot_disjoint {s t : Dev nD} (h : s ≠ t) : Disjoint (rSlot s).set (rSlot t).set :=
  Finset.disjoint_left.mpr fun i hi hj => h (Fin.ext ((mem_rSlot.mp hi).symm.trans (mem_rSlot.mp hj)))
theorem rectW_disjoint {b b' : Fin 2} (h : b ≠ b') : Disjoint (rectW b).set (rectW b').set :=
  Finset.disjoint_left.mpr fun i hi hj => h (Fin.ext ((mem_rectW.mp hi).symm.trans (mem_rectW.mp hj)))
theorem rSlot_cover : (Finset.univ : Finset (Dev nD)).biUnion (fun s => (rSlot s).set) = Finset.univ :=
  Finset.eq_univ_iff_forall.mpr fun i => Finset.mem_biUnion.mpr ⟨⟨(i (0 : Fin 3)).val, (i (0 : Fin 3)).isLt⟩, Finset.mem_univ _, mem_rSlot.mpr rfl⟩
theorem rectW_cover : (Finset.univ : Finset (Fin 2)).biUnion (fun b => (rectW b).set) = Finset.univ :=
  Finset.eq_univ_iff_forall.mpr fun i => Finset.mem_biUnion.mpr ⟨⟨(i (0 : Fin 3)).val, (i (0 : Fin 3)).isLt⟩, Finset.mem_univ _, mem_rectW.mpr rfl⟩

theorem semS_inj : Function.Injective semS := by decide +kernel
theorem semR_inj : Function.Injective semR := by decide +kernel
theorem semS_ne_semR : ∀ s t, semS s ≠ semR t := by decide +kernel

end Cert.A2A

end
-- ==== Proof.Proto.lean ====
/-
  The protocol. Every device's barrier cell collects one unit from every other device, and each unit brings the slot of the
  payer's landing scratch that this device's block is sent to. A landing cell, one per source, collects one block and hands
  over the slot that holds it; a sending cell, one per target, collects the same block and hands back the slot it left from.
  One round each. What is owed at launch, and the levels that keep the waits well founded, are stated here too.
-/
module

public import proofs.«01_k».proof.Proof.Canon
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the handshake's and transfers' rounds, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## The cells -/

abbrev barCell (c : Dev nD) : GSem nD τ sig := ((c : Thread nD τ), .reg barS)
abbrev sendCell (c t : Dev nD) : GSem nD τ sig := ((c : Thread nD τ), .dma (semS t))
abbrev recvCell (c s : Dev nD) : GSem nD τ sig := ((c : Thread nD τ), .dma (semR s))

/-- What one block credits. -/
def N : ℕ := (slotT 0).view.dmaCredit
theorem N_pos : 0 < N := View.dmaCredit_pos _ (by decide)
theorem credit_T (s : Dev nD) : (slotT s).view.dmaCredit = N := rfl
theorem credit_S (s : Dev nD) : (slotS s).view.dmaCredit = N := rfl

/-! ## Contents -/

/-- Device `c`'s part of `x`, as its kernel finds it staged. -/
def xstg (c : Dev nD) : (cc0_stg0_0 : Ref sig .tc).ty.Contents (Elt F) :=
  (win0_0.blk (0 : Fin 1)).view.read (Elt F) (m ((c : Thread nD τ).loc main_arg0))
/-- The block of device `s`'s part of `x` meant for device `c`, narrowed. -/
def blk (s c : Dev nD) : Vec F S256x256 .bf16 :=
  shapeCast S256x256 (packed (xM.view.readAt (Elt F) (rRows c).toLoadRect (xstg m s))) shapeCasts_S1x256x256_S256x256
/-- The rows of `w`, on device `c`, that multiply device `s`'s block. -/
def wRows (c s : Dev nD) : Vec F S256x4096 .f32 := (rowsOf s).view.read (Elt F) (m ((c : Thread nD τ).loc main_arg1))

/-! ## What a slot of a scratch is held as -/

def sAt (c t : Dev nD) (f : Buf (Elt F) ((c : Thread nD τ).loc cc0_scratch0)) : sProp 𝕄 := ((c : Thread nD τ).loc cc0_scratch0) ↦[(rSlot t).set]{fullShare} f
def tAt (c s : Dev nD) (f : Buf (Elt F) ((c : Thread nD τ).loc cc0_scratch1)) : sProp 𝕄 := ((c : Thread nD τ).loc cc0_scratch1) ↦[(rSlot s).set]{fullShare} f
def vAt (c : Dev nD) (b : Fin 2) (f : Buf (Elt F) ((c : Thread nD τ).loc cc0_scratch2)) : sProp 𝕄 := ((c : Thread nD τ).loc cc0_scratch2) ↦[(rectW b).set]{fullShare} f

def sFree (c t : Dev nD) : sProp 𝕄 := iprop(∃ f, sAt c t f)
def tFree (c s : Dev nD) : sProp 𝕄 := iprop(∃ f, tAt c s f)
def vFree (c : Dev nD) (b : Fin 2) : sProp 𝕄 := iprop(∃ f, vAt c b f)
/-- The slot of `s` on `c`, holding the block `s` sent. -/
def tFull (c s : Dev nD) : sProp 𝕄 := iprop(∃ f : Buf (Elt F) ((c : Thread nD τ).loc cc0_scratch1), ⌜(slotT s).view.read (Elt F) f = blk m s c⌝ ∗ tAt c s f)

instance sAt_storable (c t : Dev nD) (f) : BI.Storable (upEmb : UEmb _ 𝕄) (sAt (F := F) c t f) := by unfold sAt; infer_instance
instance tAt_storable (c t : Dev nD) (f) : BI.Storable (upEmb : UEmb _ 𝕄) (tAt (F := F) c t f) := by unfold tAt; infer_instance
instance sFree_storable (c t : Dev nD) : BI.Storable (upEmb : UEmb _ 𝕄) (sFree (F := F) c t) := by unfold sFree; infer_instance
instance tFree_storable (c t : Dev nD) : BI.Storable (upEmb : UEmb _ 𝕄) (tFree (F := F) c t) := by unfold tFree; infer_instance
instance tFull_storable (c t : Dev nD) : BI.Storable (upEmb : UEmb _ 𝕄) (tFull (F := F) m c t) := by
  unfold tFull; infer_instance

/-! ## The schedule -/

def dut (c : Dev nD) (sm : SemLoc sig) : Finset (Dev nD) :=
  if sm = .reg barS then Finset.univ.erase c
  else if (∃ t, t ≠ c ∧ sm = .dma (semS t)) ∨ (∃ s, s ≠ c ∧ sm = .dma (semR s)) then {0} else ∅

open Classical in
def pay (c : Dev nD) (sm : SemLoc sig) (d : Dev nD) : sProp 𝕄 :=
  if sm = .reg barS then tFree d c
  else if h : ∃ s, sm = .dma (semR s) then tFull m c h.choose
  else if h : ∃ t, sm = .dma (semS t) then sFree c h.choose
  else iprop(emp)

def Rd : Rounds.Schedule (GSem nD τ sig) (Dev nD) 𝕄 where
  duties g r := if r = 0 ∧ g.1.2 = .tc then dut g.1.1 g.2 else ∅
  unitless _ := False
  amount g _ _ := if g.2 = .reg barS then 1 else N
  payload g _ d := pay m g.1.1 g.2 d
  amount_pos g _ _ _ := by
    by_cases h : g.2 = .reg barS
    · rw [if_pos h]; exact Nat.one_pos
    · rw [if_neg h]; exact N_pos

instance Rd_payload_storable (g : GSem nD τ sig) (r : ℕ) (d : Dev nD) : BI.Storable (upEmb : UEmb _ 𝕄) ((Rd (F := F) m).payload g r d) := by
  show BI.Storable upEmb (pay m g.1.1 g.2 d)
  unfold pay
  (repeat' split) <;> infer_instance

section Sched
variable (c : Dev nD)

theorem semS_ne_bar (t : Dev nD) : (SemLoc.dma (semS t) : SemLoc sig) ≠ .reg barS := fun h => by cases h
theorem semR_ne_bar (t : Dev nD) : (SemLoc.dma (semR t) : SemLoc sig) ≠ .reg barS := fun h => by cases h

theorem dut_bar : dut c (.reg barS) = Finset.univ.erase c := if_pos rfl
theorem dut_send {t : Dev nD} (h : t ≠ c) : dut c (.dma (semS t)) = {0} := by
  unfold dut; rw [if_neg (semS_ne_bar t), if_pos (Or.inl ⟨t, h, rfl⟩)]
theorem dut_recv {s : Dev nD} (h : s ≠ c) : dut c (.dma (semR s)) = {0} := by
  unfold dut; rw [if_neg (semR_ne_bar s), if_pos (Or.inr ⟨s, h, rfl⟩)]
theorem dut_send_self : dut c (.dma (semS c)) = ∅ := by
  unfold dut; rw [if_neg (semS_ne_bar c), if_neg]
  rintro (⟨t, ht, h⟩ | ⟨s, hs, h⟩)
  · exact ht (semS_inj (SemLoc.dma.inj h)).symm
  · exact semS_ne_semR _ _ (SemLoc.dma.inj h)
theorem dut_recv_self : dut c (.dma (semR c)) = ∅ := by
  unfold dut; rw [if_neg (semR_ne_bar c), if_neg]
  rintro (⟨t, ht, h⟩ | ⟨s, hs, h⟩)
  · exact semS_ne_semR _ _ (SemLoc.dma.inj h).symm
  · exact hs (semR_inj (SemLoc.dma.inj h)).symm

theorem duties_zero (sm : SemLoc sig) : (Rd (F := F) m).duties ((c : Thread nD τ), sm) 0 = dut c sm := by dsimp only [Rd]; exact if_pos ⟨rfl, rfl⟩
theorem duties_later (g : GSem nD τ sig) : ∀ r, 1 ≤ r → (Rd (F := F) m).duties g r = ∅ := fun r hr => by dsimp only [Rd]; exact if_neg fun h => by omega
theorem duties_none (sm : SemLoc sig) (h : dut c sm = ∅) : ∀ r, 0 ≤ r → (Rd (F := F) m).duties ((c : Thread nD τ), sm) r = ∅ := fun r _ => by
  rcases Nat.eq_zero_or_pos r with rfl | hr
  · rw [duties_zero, h]
  · exact duties_later m _ r hr

theorem amount_bar (d : Dev nD) : (Rd (F := F) m).amount (barCell c) 0 d = 1 := by dsimp only [Rd]; exact if_pos rfl
theorem amount_send (t d : Dev nD) : (Rd (F := F) m).amount (sendCell c t) 0 d = N := by dsimp only [Rd]; exact if_neg (semS_ne_bar t)
theorem amount_recv (s d : Dev nD) : (Rd (F := F) m).amount (recvCell c s) 0 d = N := by dsimp only [Rd]; exact if_neg (semR_ne_bar s)

theorem expect_bar : (Rd (F := F) m).expect (barCell c) 0 = 31 := by
  unfold Schedule.expect Schedule.amountOf
  rw [duties_zero, dut_bar, Finset.sum_congr rfl fun d _ => amount_bar m c d, Finset.sum_const, Finset.card_erase_of_mem (Finset.mem_univ _)]
  simp [nD]
theorem expect_send {t : Dev nD} (h : t ≠ c) : (Rd (F := F) m).expect (sendCell c t) 0 = N := by
  unfold Schedule.expect Schedule.amountOf; rw [duties_zero, dut_send c h, Finset.sum_singleton, amount_send]
theorem expect_recv {s : Dev nD} (h : s ≠ c) : (Rd (F := F) m).expect (recvCell c s) 0 = N := by
  unfold Schedule.expect Schedule.amountOf; rw [duties_zero, dut_recv c h, Finset.sum_singleton, amount_recv]

theorem payload_bar (d : Dev nD) : (Rd (F := F) m).payload (barCell c) 0 d = tFree d c := by dsimp only [Rd]; unfold pay; exact if_pos rfl
theorem payload_recv (s d : Dev nD) : (Rd (F := F) m).payload (recvCell c s) 0 d = tFull m c s := by
  have h : ∃ s', (SemLoc.dma (semR s) : SemLoc sig) = .dma (semR s') := ⟨s, rfl⟩
  show pay m c (.dma (semR s)) d = _
  unfold pay; rw [if_neg (semR_ne_bar s), dif_pos h, ← semR_inj (SemLoc.dma.inj h.choose_spec)]
theorem payload_send (t d : Dev nD) : (Rd (F := F) m).payload (sendCell c t) 0 d = sFree c t := by
  have h : ∃ t', (SemLoc.dma (semS t) : SemLoc sig) = .dma (semS t') := ⟨t, rfl⟩
  show pay m c (.dma (semS t)) d = _
  unfold pay; rw [if_neg (semS_ne_bar t), dif_neg (fun ⟨s, hs⟩ => semS_ne_semR _ _ (SemLoc.dma.inj hs)), dif_pos h, ← semS_inj (SemLoc.dma.inj h.choose_spec)]

theorem rest_bar : bigSep ((Rd (F := F) m).duties (barCell c) 0 \ ∅) (fun d => (Rd (F := F) m).payload (barCell c) 0 d)
    = bigSep (Finset.univ.erase c) fun d => tFree d c := by
  rw [Finset.sdiff_empty, duties_zero, dut_bar]; exact bigSep_congr fun d _ => payload_bar m c d
theorem rest_send {t : Dev nD} (h : t ≠ c) : bigSep ((Rd (F := F) m).duties (sendCell c t) 0 \ ∅) (fun d => (Rd (F := F) m).payload (sendCell c t) 0 d) = sFree c t := by
  rw [Finset.sdiff_empty, duties_zero, dut_send c h, bigSep_singleton, payload_send]
theorem rest_recv {s : Dev nD} (h : s ≠ c) : bigSep ((Rd (F := F) m).duties (recvCell c s) 0 \ ∅) (fun d => (Rd (F := F) m).payload (recvCell c s) 0 d) = tFull m c s := by
  rw [Finset.sdiff_empty, duties_zero, dut_recv c h, bigSep_singleton, payload_recv]

end Sched

/-! ## What a device owes, and the levels -/

/-- The steps from `i` on. -/
def rest (n i : ℕ) : Finset (Fin n) := Finset.univ.filter fun r => i ≤ r.val

theorem rest_zero (n : ℕ) : rest n 0 = Finset.univ := Finset.filter_true_of_mem fun _ _ => Nat.zero_le _
theorem rest_end (n : ℕ) : rest n n = ∅ := Finset.filter_false_of_mem fun r _ => by have := r.isLt; omega
theorem rest_not_mem {n i : ℕ} (h : i < n) : (⟨i, h⟩ : Fin n) ∉ rest n (i + 1) := by simp [rest]
theorem rest_insert {n i : ℕ} (h : i < n) : rest n i = insert ⟨i, h⟩ (rest n (i + 1)) := by
  ext r; simp only [rest, Finset.mem_filter, Finset.mem_univ, true_and, Finset.mem_insert, Fin.ext_iff]; omega

/-- What is left to pay of the landings, before send `i`; of the handshake, before signal `i`. -/
def owedR (c : Dev nD) (i : ℕ) : CellTallies nD τ sig Unit := ∑ r ∈ rest 31 i, tallyAt (recvCell (peer c r) c) () N
def owedB (c : Dev nD) (i : ℕ) : CellTallies nD τ sig Unit := ∑ r ∈ rest 31 i, tallyAt (barCell (peer c r)) () 1
def O₀ (c : Dev nD) : CellTallies nD τ sig Unit := owedR c 0 + owedB c 0

theorem owedR_step (c : Dev nD) {i : ℕ} (h : i < 31) : owedR c i = owedR c (i + 1) + tallyAt (recvCell (peer c ⟨i, h⟩) c) () N := by
  unfold owedR; rw [rest_insert h, Finset.sum_insert (rest_not_mem h), add_comm]
theorem owedB_step (c : Dev nD) {i : ℕ} (h : i < 31) : owedB c i = owedB c (i + 1) + tallyAt (barCell (peer c ⟨i, h⟩)) () 1 := by
  unfold owedB; rw [rest_insert h, Finset.sum_insert (rest_not_mem h), add_comm]
theorem owedR_end (c : Dev nD) : owedR c 31 = 0 := by unfold owedR; rw [rest_end, Finset.sum_empty]
theorem owedB_end (c : Dev nD) : owedB c 31 = 0 := by unfold owedB; rw [rest_end, Finset.sum_empty]

def L (g : GSem nD τ sig) : Finset Unit := if g.1.2 = .tc then {()} else ∅
def lv (g : GSem nD τ sig) (_ : Unit) : ℕ := if g.2 = .reg barS then 1 else if ∃ s, g.2 = .dma (semR s) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c s : Dev nD) (u : Unit) : lv (recvCell c s) u = 2 := by unfold lv; rw [if_neg (semR_ne_bar s), if_pos ⟨s, rfl⟩]

/-- A positive total of single dues is due to one of them. -/
theorem sum_tally_pos {n k : ℕ} (S : Finset (Fin n)) (f : Fin n → GSem nD τ sig) {g : GSem nD τ sig} {u : Unit}
    (h : 0 < (∑ r ∈ S, (tallyAt (f r) () k : CellTallies nD τ sig Unit)) g u) : ∃ r, g = f r := by
  rw [Finset.sum_apply, Finsupp.finset_sum_apply] at h
  by_contra hn
  rw [not_exists] at hn
  rw [Finset.sum_eq_zero fun r _ => by rw [tallyAt_apply, if_neg (fun h' => hn r h'.1)]] at h
  exact Nat.lt_irrefl 0 h

theorem owedR_pos {c : Dev nD} {i : ℕ} {g : GSem nD τ sig} {u : Unit} (h : 0 < owedR c i g u) : ∃ d, g = recvCell d c :=
  let ⟨r, hr⟩ := sum_tally_pos _ _ h; ⟨_, hr⟩
theorem O₀_pos {c : Dev nD} {g : GSem nD τ sig} {u : Unit} (h : 0 < O₀ c g u) : (∃ d, g = recvCell d c) ∨ ∃ d, g = barCell d := by
  unfold O₀ at h
  rw [Pi.add_apply, Finsupp.add_apply] at h
  rcases Nat.eq_zero_or_pos (owedR c 0 g u) with h0 | h0
  · rw [h0, Nat.zero_add] at h
    exact Or.inr (let ⟨r, hr⟩ := sum_tally_pos _ _ h; ⟨_, hr⟩)
  · exact Or.inl (owedR_pos h0)

/-- At the barrier a device owes landings only, which lie above. -/
theorem mayWait_bar (c : Dev nD) : (levAts L lv : sProp 𝕄) ⊢ MayWait (c : Thread nD τ) (.reg barS) () (owedR c 0) :=
  MayOwe.of_cut (L := L) (lev := lv) 1 (fun p hp => by rw [Finset.mem_singleton.mp hp, L_tc]; exact Finset.mem_singleton_self _)
    (fun g u hg => by obtain ⟨d, rfl⟩ := owedR_pos hg; rw [L_tc]; exact Finset.mem_singleton_self _)
    (fun p hp => by rw [Finset.mem_singleton.mp hp]; exact le_of_eq (lv_bar c ()))
    (fun g u hg => by obtain ⟨d, rfl⟩ := owedR_pos hg; rw [lv_recv]; decide)

/-- A wait of the pipeline's own, before or after the body. -/
theorem mayWait_stage (c : Dev nD) (q : DmaSem sig) (hq : ∀ s, q ≠ semR s) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]; unfold lv
        rw [if_neg (fun h => by cases h), if_neg (fun ⟨s, hs⟩ => hq s (SemLoc.dma.inj hs))])
      (fun g u hg => by
        rcases O₀_pos hg with ⟨d, rfl⟩ | ⟨d, rfl⟩
        · rw [lv_recv]; decide
        · rw [lv_bar]; decide)
  · rw [MayWait_zero]; iintro -; iempintro

end Cert.A2A

end
-- ==== Proof.Reads.lean ====
/-
  Pure facts the steps need of the views: a load through a scratch at a slot's rectangle reads that slot, a store through
  it writes the slot, and both stay inside the slot's elements. And what the running sum is after each step.
-/
module

public import proofs.«01_k».proof.Proof.Proto
public import Idealize.ShloMosaic.Lib.Pipeline.Value

@[expose] public section

noncomputable section

namespace Cert.A2A

open Cert.KernelIdeal Cert.KernelIdeal.Gen
open Idealize.ShloMosaic
open Idealize.ShloMosaic.TcCoe

variable {F : FTy → Type} [FloatOps F]

theorem setOn_whole (b : Ref sig .tc) (M : Finset b.ty.Idx) : (View.whole b : View sig .tc _ _ _).setOn M = M :=
  Finset.map_refl

section Slots
variable {o : Fin 3 → Nat} {s : Dev nD}

theorem readT (h : o = ![s.val, 0, 0]) (p) (f : (cc0_scratch1 : Ref sig .tc).ty.Contents (Elt F)) :
    shapeCast S256x256 (tM.view.readAt (Elt F) (Rect.unit (s := S32x256x256) o S1x256x256.size p).toLoadRect f) shapeCasts_S1x256x256_S256x256
      = (slotT s).view.read (Elt F) f := by subst h; rfl
theorem readS (h : o = ![s.val, 0, 0]) (p) (f : (cc0_scratch0 : Ref sig .tc).ty.Contents (Elt F)) :
    shapeCast S256x256 (sM.view.readAt (Elt F) (Rect.unit (s := S32x256x256) o S1x256x256.size p).toLoadRect f) shapeCasts_S1x256x256_S256x256
      = (slotS s).view.read (Elt F) f := by subst h; rfl
theorem readAt_write {sp : Space} {S : Shape} {e : EltTy} (M : Memref sig .tc sp S e) (r : Rect S) (f : M.view.ty.Contents (Elt F)) (w : r.shape.Idx → Elt F e) :
    M.view.readAt (Elt F) r.toLoadRect ((M.access r).write (Elt F) f w Finset.univ) = w :=
  View.read_write_univ (v := M.access r) f w
theorem storeT (h : o = ![s.val, 0, 0]) (p) (f : (cc0_scratch1 : Ref sig .tc).ty.Contents (Elt F)) (w : Vec F S1x256x256 .bf16) :
    (slotT s).view.read (Elt F) ((tM.access (Rect.unit (s := S32x256x256) o S1x256x256.size p)).write (Elt F) f w Finset.univ)
      = shapeCast S256x256 w shapeCasts_S1x256x256_S256x256 := by
  rw [← readT h p, readAt_write tM (Rect.unit (s := S32x256x256) o S1x256x256.size p) f w]
theorem storeS (h : o = ![s.val, 0, 0]) (p) (f : (cc0_scratch0 : Ref sig .tc).ty.Contents (Elt F)) (w : Vec F S1x256x256 .bf16) :
    (slotS s).view.read (Elt F) ((sM.access (Rect.unit (s := S32x256x256) o S1x256x256.size p)).write (Elt F) f w Finset.univ)
      = shapeCast S256x256 w shapeCasts_S1x256x256_S256x256 := by
  rw [← readS h p, readAt_write sM (Rect.unit (s := S32x256x256) o S1x256x256.size p) f w]
theorem set_unit (h : o = ![s.val, 0, 0]) (p) : (Rect.unit (s := S32x256x256) o S1x256x256.size p).set = (rSlot s).set := by subst h; rfl
theorem loadT_sub (h : o = ![s.val, 0, 0]) (p) : tM.view.setOn (Rect.unit (s := S32x256x256) o S1x256x256.size p).toLoadRect.set ⊆ (rSlot s).set := by
  subst h; exact (setOn_whole cc0_scratch1 _).subset
theorem loadS_sub (h : o = ![s.val, 0, 0]) (p) : sM.view.setOn (Rect.unit (s := S32x256x256) o S1x256x256.size p).toLoadRect.set ⊆ (rSlot s).set := by
  subst h; exact (setOn_whole cc0_scratch0 _).subset
theorem storeT_sub (h : o = ![s.val, 0, 0]) (p) : (tM.access (Rect.unit (s := S32x256x256) o S1x256x256.size p)).setOn Finset.univ ⊆ (rSlot s).set := by
  subst h; exact (View.set_slice_whole cc0_scratch1 (rSlot s)).subset
theorem storeS_sub (h : o = ![s.val, 0, 0]) (p) : (sM.access (Rect.unit (s := S32x256x256) o S1x256x256.size p)).setOn Finset.univ ⊆ (rSlot s).set := by
  subst h; exact (View.set_slice_whole cc0_scratch0 (rSlot s)).subset

end Slots

theorem readX {o : Fin 2 → Nat} {s : Dev nD} (h : o = ![256 * s.val, 0]) (p) (f : (cc0_stg0_0 : Ref sig .tc).ty.Contents (Elt F)) :
    xM.view.readAt (Elt F) (Rect.unit (s := S8192x256) o S256x256.size p).toLoadRect f = xM.view.readAt (Elt F) (rRows s).toLoadRect f := by subst h; rfl

theorem readW (b : Fin 2) (f : (cc0_scratch2 : Ref sig .tc).ty.Contents (Elt F)) :
    shapeCast S256x4096 (vM.view.readAt (Elt F) (Rect.unit (s := S2x256x4096) ![b.val, 0, 0] S1x256x4096.size (slotW_inb b)).toLoadRect f) shapeCasts_S1x256x4096_S256x4096
      = (slotW b).view.read (Elt F) f := rfl
theorem loadW_sub (b : Fin 2) : vM.view.setOn (Rect.unit (s := S2x256x4096) ![b.val, 0, 0] S1x256x4096.size (slotW_inb b)).toLoadRect.set ⊆ (rectW b).set :=
  (setOn_whole cc0_scratch2 _).subset

theorem zero2 : (![0, 0] : Fin 2 → Nat) = fun _ => 0 := funext fun a => by fin_cases a <;> rfl
theorem readO (f : (cc0_stg1_0 : Ref sig .tc).ty.Contents (Elt F)) : oM.view.readAt (Elt F) rectO.toLoadRect f = f :=
  Memref.readAt_unit_zero (Elt F) cc0_stg1_0 zero2 _ f
theorem writeO (f w : (cc0_stg1_0 : Ref sig .tc).ty.Contents (Elt F)) : (oM.access rectO).write (Elt F) f w Finset.univ = w :=
  Memref.write_access_unit_zero_univ (Elt F) cc0_stg1_0 zero2 _ f w

/-! ## The running sum -/

variable (m : (ℓ : Loc nD τ sig) → Buf (Elt F) ℓ)

/-- One block times its rows of `w`, both narrowed. -/
def prodB (t : Vec F S256x256 .bf16) (w : Vec F S256x4096 .f32) : FVec F S256x4096 .f32 :=
  matmul dot_S256x256_S256x4096_S256x4096_1_0_0_1_n_n none t (truncf .bf16 w bitsLt_bf16_f32) (constant S256x4096 .f32 0x00000000#32)
/-- Device `c`'s product for source `s`. -/
def prodOf (c s : Dev nD) : FVec F S256x4096 .f32 := prodB (blk m s c) (wRows m c s)
/-- The sum after step `i`. -/
def acc (c : Dev nD) : ℕ → FVec F S256x4096 .f32
  | 0 => prodOf m c c
  | i + 1 => addf (acc c i) (prodOf m c (src c (Fin.ofNat 32 (i + 1))))
/-- What the kernel leaves on device `c`. -/
def outAt (c : Dev nD) : (cc0_stg1_0 : Ref sig .tc).ty.Contents (Elt F) := gelu (acc m c 31)

theorem prod_eq (t : Vec F S1x256x256 .bf16) (w : Vec F S1x256x4096 .f32) :
    prod t w = prodB (shapeCast S256x256 t shapeCasts_S1x256x256_S256x256) (shapeCast S256x4096 w shapeCasts_S1x256x4096_S256x4096) := rfl
theorem accum_eq (t : Vec F S1x256x256 .bf16) (w : Vec F S1x256x4096 .f32) (o : Vec F S256x4096 .f32) :
    accum t w o = addf o (prodB (shapeCast S256x256 t shapeCasts_S1x256x256_S256x256) (shapeCast S256x4096 w shapeCasts_S1x256x4096_S256x4096)) :=
  congrArg (fun v => addf v _) (Idealize.ShloMosaic.shapeCast_self o shapeCasts_S256x4096_S256x4096)

end Cert.A2A

end
-- ==== Proof.StepWp.lean ====
/-
  Each step, run symbolically: a triple over what the step consumes and produces, under the persistent context of the
  cells' invariants, their reached marks and the levels. Triples compose along `bind` and along a loop of steps.
-/
module

public import proofs.«01_k».proof.Proof.Reads

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells as a family, and the persistent context -/

/-- A device's cells: its barrier cell, one sending cell per target, one landing cell per source. -/
abbrev CI : Type := Unit ⊕ (Dev nD ⊕ Dev nD)
def csem : CI → SemLoc sig
  | .inl _ => .reg barS
  | .inr (.inl t) => .dma (semS t)
  | .inr (.inr s) => .dma (semR s)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)
def ctx (K : Dev nD × CI → ℕ) : sProp 𝕄 := iprop(records m K ∗ levAts L lv)

instance records_persistent (K : Dev nD × CI → ℕ) : BI.Persistent (records m K) := by unfold records; infer_instance
instance ctx_persistent (K : Dev nD × CI → ℕ) : BI.Persistent (ctx m K) := by unfold ctx; infer_instance

theorem inv_at (K : Dev nD × CI → ℕ) (ck : Dev nD × CI) :
    (bigSep Finset.univ fun ck : Dev nD × CI => (cellInv ER (Rd m) (K ck) (kcell ck) : sProp 𝕄)) ⊢ cellInv ER (Rd m) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)
theorem ctx_cell (K : Dev nD × CI → ℕ) (ck : Dev nD × CI) : ctx m K ⊢ iprop(cellInv ER (Rd m) (K ck) (kcell ck) ∗ reached ER (kcell ck) 0) := by
  unfold ctx records
  iintro ⟨⟨HI, HR⟩, -⟩
  isplitl [HI]
  · iapply (inv_at m K ck); iexact HI
  · iapply (reached_at ck); iexact HR
theorem ctx_lev (K : Dev nD × CI → ℕ) : ctx m K ⊢ (levAts L lv : sProp 𝕄) := by unfold ctx; iintro ⟨-, H⟩; iexact H

/-! ## Triples -/

abbrev 𝒱₀ : Variants := Variants.none

abbrev WP (c : Dev nD) (p : Prog (TEff F) PUnit) (Kt : PUnit → sProp 𝕄) : sProp 𝕄 :=
  wp frame (wpE (defs₀ (F := F)) 𝒱₀ (c : Thread nD τ) none) Set.univ p Kt

def Tri (K : Dev nD × CI → ℕ) (c : Dev nD) (P : sProp 𝕄) (p : Prog (TEff F) PUnit) (Q : sProp 𝕄) : Prop :=
  ∀ Kt : PUnit → sProp 𝕄, iprop(ctx m K ∗ P ∗ (Q -∗ Kt ⟨⟩)) ⊢ WP c p Kt

variable {m} {K : Dev nD × CI → ℕ} {c : Dev nD}

theorem Tri.bind {P Q R : sProp 𝕄} {p q : Prog (TEff F) PUnit} (hp : Tri m K c P p Q) (hq : Tri m K c Q q R) :
    Tri m K c P (p.bind fun _ => q) R := fun Kt => by
  refine BIBase.Entails.trans ?_ (Entails.of_eq (wp_bind frame (wpE (defs₀ (F := F)) 𝒱₀ (c : Thread nD τ) none) Set.univ p (fun _ => q) Kt).symm)
  iintro ⟨#Hc, HP, Hk⟩
  iapply (hp _)
  isplitr; · iexact Hc
  isplitl [HP]; · iexact HP
  iintro HQ
  iapply (hq Kt)
  isplitr; · iexact Hc
  isplitl [HQ]; · iexact HQ
  iexact Hk

theorem Tri.conseq {P P' Q Q' : sProp 𝕄} {p : Prog (TEff F) PUnit} (h : Tri m K c P p Q) (hP : P' ⊢ P) (hQ : Q ⊢ Q') :
    Tri m K c P' p Q' := fun Kt => by
  iintro ⟨#Hc, HP, Hk⟩
  iapply (h Kt)
  isplitr; · iexact Hc
  isplitl [HP]; · iapply hP; iexact HP
  iintro HQ; iapply Hk; iapply hQ; iexact HQ

theorem Tri.frame {P Q : sProp 𝕄} {p : Prog (TEff F) PUnit} (R : sProp 𝕄) (h : Tri m K c P p Q) :
    Tri m K c iprop(P ∗ R) p iprop(Q ∗ R) := fun Kt => by
  iintro ⟨#Hc, ⟨HP, HR⟩, Hk⟩
  iapply (h Kt)
  isplitr; · iexact Hc
  isplitl [HP]; · iexact HP
  iintro HQ; iapply Hk
  isplitl [HQ] <;> iassumption

theorem tri_ret (P : sProp 𝕄) : Tri m K c P (.ret ⟨⟩) P := fun Kt => by
  dsimp only [WP]; rw [wp_ret]; iintro ⟨-, HP, Hk⟩; imodintro; iapply Hk; iexact HP

theorem bigSep_ins {I : Type} [DecidableEq I] {S : Finset I} {i : I} (h : i ∉ S) (Φ : I → sProp 𝕄) :
    bigSep (insert i S) Φ = iprop(Φ i ∗ bigSep S Φ) := bigSep_insert h

/-- A loop of steps: each consumes its own share of `A`, produces its own of `B`, and moves `I` on by one. -/
theorem tri_seqFrom {n : ℕ} {step : Fin n → Prog (TEff F) PUnit} {I : ℕ → sProp 𝕄} {A B : Fin n → sProp 𝕄}
    (h : ∀ r : Fin n, Tri m K c iprop(I r.val ∗ A r) (step r) iprop(I (r.val + 1) ∗ B r)) :
    ∀ (k i : ℕ) (hk : i + k = n), Tri m K c iprop(I i ∗ bigSep (rest n i) A) (seqFrom step k i hk) iprop(I n ∗ bigSep (rest n i) B)
  | 0, i, hk => by
    obtain rfl : i = n := hk
    unfold seqFrom; rw [rest_end]; exact tri_ret _
  | k + 1, i, hk => by
    have hi : i < n := by omega
    unfold seqFrom
    rw [rest_insert hi, bigSep_ins (rest_not_mem hi), bigSep_ins (rest_not_mem hi)]
    refine Tri.bind (Q := iprop((I (i + 1) ∗ B ⟨i, hi⟩) ∗ bigSep (rest n (i + 1)) A))
      (((h ⟨i, hi⟩).frame (bigSep (rest n (i + 1)) A)).conseq ?_ (Entails.refl _))
      (((tri_seqFrom h k (i + 1) (by omega)).frame (B ⟨i, hi⟩)).conseq ?_ ?_)
    · iintro ⟨HI, HA, HR⟩
      isplitl [HI HA]
      · isplitl [HI] <;> iassumption
      iexact HR
    · iintro ⟨⟨HI, HB⟩, HR⟩
      isplitl [HI HR]
      · isplitl [HI] <;> iassumption
      iexact HB
    · iintro ⟨⟨HI, HR⟩, HB⟩
      isplitl [HI]; · iexact HI
      isplitl [HB] <;> iassumption

theorem tri_seq {n : ℕ} {step : Fin n → Prog (TEff F) PUnit} (I : ℕ → sProp 𝕄) (A B : Fin n → sProp 𝕄)
    (h : ∀ r : Fin n, Tri m K c iprop(I r.val ∗ A r) (step r) iprop(I (r.val + 1) ∗ B r)) :
    Tri m K c iprop(I 0 ∗ bigSep Finset.univ A) (seqAll step) iprop(I n ∗ bigSep Finset.univ B) := by
  have := tri_seqFrom h n 0 (Nat.zero_add n)
  rwa [rest_zero] at this

/-! ## What a device holds -/

variable (m) (c)

def owesE (O : CellTallies nD τ sig Unit) : sProp 𝕄 := iprop(∃ W, owes (c : Thread nD τ) O W)
def xAt : sProp 𝕄 := ((c : Thread nD τ).loc cc0_stg0_0) ↦{fullShare} xstg m c
def oAt (f : (cc0_stg1_0 : Ref sig .tc).ty.Contents (Elt F)) : sProp 𝕄 := ((c : Thread nD τ).loc cc0_stg1_0) ↦{fullShare} f

/-- Half of the second operand for each of its two streams. -/
def qW (b : Fin 2) : PosShare TreeShare := if b = 0 then fullShare.left else fullShare.right
abbrev wBuf : Buf (Elt F) ((c : Thread nD τ).loc main_arg1) := m ((c : Thread nD τ).loc main_arg1)
def wHalf (b : Fin 2) : sProp 𝕄 := ((c : Thread nD τ).loc main_arg1) ↦{qW b} wBuf m c
def wIn (b : Fin 2) (s : Dev nD) : sProp 𝕄 := ((c : Thread nD τ).loc main_arg1) ↦[(rowsOf s).view.set]{qW b} wBuf m c
def wOut (b : Fin 2) (s : Dev nD) : sProp 𝕄 := ((c : Thread nD τ).loc main_arg1) ↦[Finset.univ \ (rowsOf s).view.set]{qW b} wBuf m c
def vFull (b : Fin 2) (s : Dev nD) : sProp 𝕄 :=
  iprop(∃ f : Buf (Elt F) ((c : Thread nD τ).loc cc0_scratch2), ⌜(slotW b).view.read (Elt F) f = wRows m c s⌝ ∗ vAt c b f)
def NW : ℕ := (slotW 0).view.dmaCredit
theorem NW_pos : 0 < NW := View.dmaCredit_pos _ (by decide)
/-- A stream at rest; -/
def vIdle (b : Fin 2) : sProp 𝕄 := iprop(vFree c b ∗ wHalf m c b ∗ semVal ((c : Thread nD τ), .dma (semW b)) 0)
/-- fetching the rows for source `s`; -/
def Flt (b : Fin 2) (s : Dev nD) : sProp 𝕄 :=
  iprop(Transfers.Flight EC (c : Thread nD τ) (.dma (semW b)) () NW iprop(vFull m c b s ∗ wIn m c b s) ∗ wOut m c b s)
/-- holding them. -/
def vHave (b : Fin 2) (s : Dev nD) : sProp 𝕄 := iprop(vFull m c b s ∗ wHalf m c b ∗ semVal ((c : Thread nD τ), .dma (semW b)) 0)

theorem wHalf_split (b : Fin 2) (s : Dev nD) : wHalf m c b ⊣⊢ iprop(wIn m c b s ∗ wOut m c b s) := by
  unfold wHalf wIn wOut; exact pointsTo_split_subset (Finset.subset_univ _)

theorem vHave_idle (b : Fin 2) (s : Dev nD) : vHave m c b s ⊢ vIdle m c b := by
  unfold vHave vIdle vFull vFree
  iintro ⟨⟨%f, -, Hv⟩, Hr⟩
  isplitl [Hv]; · iexists f; iexact Hv
  iexact Hr
theorem tFull_free (s : Dev nD) : tFull m c s ⊢ tFree c s := by
  unfold tFull tFree; iintro ⟨%f, -, H⟩; iexists f; iexact H

/-! ## The handshake -/

theorem tri_sig (r : Fin 31) (O : CellTallies nD τ sig Unit) :
    Tri m K c iprop(owesE c (O + tallyAt (barCell (peer c r)) () 1) ∗ dutyTok ER (barCell (peer c r)) 0 c ∗ tFree c (peer c r))
      (sigStep c r) (owesE c O) := fun Kt => by
  unfold sigStep
  simp only [semSignalWord]
  unfold owesE
  iintro ⟨#Hc, ⟨⟨%W, HO⟩, Ht, Hp⟩, Hk⟩
  ihave #Hcell := (ctx_cell m K (peer c r, .inl ())) $$ Hc
  icases Hcell with ⟨#HI, #HR⟩
  iapply (Rounds.wp_signal 𝒱₀ ER (Rd m) (c : Thread nD τ) none (dst := (peer c r : Thread nD τ)) (κ := K (peer c r, .inl ()))
      (d := c) (by rw [duties_zero, dut_bar]; exact Finset.mem_erase.mpr ⟨(peer_ne c r).symm, Finset.mem_univ _⟩)
      ((amount_bar m (peer c r) c).trans (by decide)) () O rfl) $$ [HO Ht Hp]
  · isplitr; · iexact HI
    isplitl [HO]; · iexact HO
    isplitl [Ht]; · iexact Ht
    isplitl [Hp]; · rw [payload_bar]; iexact Hp
    iexact HR
  iintro HO
  rw [wp_ret]; imodintro
  iapply Hk
  iexists W; iexact HO

theorem tri_bar : Tri m K c iprop(owesE c (owedR c 0) ∗ cred (tallyAt (barCell c) () 31) ∗ atPos ER (barCell c) 0 ∅ 0)
    (semWaitWord barS 31#32) iprop(owesE c (owedR c 0) ∗ atPos ER (barCell c) (0 + 1) ∅ 0 ∗ bigSep (Finset.univ.erase c) fun d => tFree d c) := fun Kt => by
  simp only [semWaitWord, show (31#32 : BitVec 32).toInt = ((31 : ℕ) : ℤ) from by decide]
  unfold owesE
  iintro ⟨#Hc, ⟨⟨%W, HO⟩, Hcr, Hat⟩, Hk⟩
  ihave #Hcell := (ctx_cell m K (c, .inl ())) $$ Hc
  icases Hcell with ⟨#HI, #HR⟩
  have hmw : ctx m K ⊢ MayWait (c : Thread nD τ) (.reg barS) () (owedR c 0) := BIBase.Entails.trans (@ctx_lev F _ m K) (mayWait_bar c)
  ihave #Hmw := hmw $$ Hc
  iapply (Rounds.wp_wait_rest_token 𝒱₀ ER (Rd m) (c : Thread nD τ) none (κ := K (c, .inl ()))
      (wpE_semWait_eq 𝒱₀ (c : Thread nD τ) none Set.univ) (Set.mem_univ _) () (O := owedR c 0) (W := W) (R := 0) (m := 0) (T := ∅)
      (by rw [expect_bar])) $$ [Hcr HO Hat]
  · isplitr; · iexact HI
    isplitl [Hcr]; · iexact Hcr
    isplitl [HO]; · iexact HO
    isplitr; · iexact Hmw
    iexact Hat
  iintro ⟨HO, Hat, -, Hpay⟩
  ihave Hp := (Entails.of_eq (rest_bar m c)) $$ Hpay
  rw [wp_ret]; imodintro
  iapply Hk
  isplitl [HO]; · iexists _; iexact HO
  isplitl [Hat] <;> iassumption

/-! ## The second operand's streams -/

theorem tri_start (b : Fin 2) (s : Dev nD) (src : Memref sig .tc .hbm S256x4096 .f32) (hs : src = rowsOf s) {h1 h2 h3} :
    Tri m K c (vIdle m c b) (.op (.enqueueDma src (.here (slotW b)) (.dma (semW b)) h1 h2 h3) .ret) (Flt m c b s) := fun Kt => by
  subst hs
  unfold vIdle vFree Flt
  iintro ⟨-, ⟨⟨%f, Hv⟩, Hw, Hz⟩, Hk⟩
  ihave Hw' := (wHalf_split m c b s).1 $$ Hw
  icases Hw' with ⟨Hi, Ho⟩
  unfold vAt wIn
  iapply (Transfers.wp_dmaLocal EC 𝒱₀ (c : Thread nD τ) none (src := rowsOf s) (dst := slotW b) (via := ReadAs.same) (Sd := (rectW b).set) () NW rfl NW_pos (set_slotW b).subset) $$ [Hi Hv Hz]
  · isplitl [Hi]; · iexact Hi
    isplitl [Hv]; · iexact Hv
    iexact Hz
  iintro HF
  rw [wp_ret]; imodintro
  iapply Hk
  isplitl [HF]
  · iapply (Transfers.Flight_mono EC (c : Thread nD τ) ?_) $$ HF
    unfold vFull vAt
    iintro ⟨Hv, Hi⟩
    isplitl [Hv]
    · iexists _
      isplitr
      swap
      · iexact Hv
      · ipureintro; exact View.read_write_univ _ _
    · iexact Hi
  · iexact Ho

theorem tri_waitW (b : Fin 2) (s : Dev nD) (src : Memref sig .tc .hbm S256x4096 .f32) {h1 h2} :
    Tri m K c iprop(owesE c 0 ∗ Flt m c b s) (.op (.waitDma2 (semW b) src (slotW b) h1 h2) .ret) iprop(owesE c 0 ∗ vHave m c b s) := fun Kt => by
  unfold owesE Flt vHave
  iintro ⟨-, ⟨⟨%W, HO⟩, HF, Hout⟩, Hk⟩
  iapply (Transfers.wp_waitLocalO EC 𝒱₀ (c : Thread nD τ) none (srcw := src) (dstw := slotW b) (hsrc := h1) (hdst := h2) () (N := NW) rfl (O := 0) (W := W)) $$ [HO HF]
  · isplitl [HF]; · iexact HF
    isplitl [HO]; · iexact HO
    rw [MayWait_zero]; iempintro
  iintro ⟨⟨Hv, Hin⟩, Hz, HO⟩
  rw [wp_ret]; imodintro
  iapply Hk
  isplitl [HO]; · iexists _; iexact HO
  isplitl [Hv]; · iexact Hv
  isplitl [Hin Hout]
  · iapply (wHalf_split m c b s).2; isplitl [Hin] <;> iassumption
  iexact Hz

end Cert.A2A

end
-- ==== Proof.BlockWp.lean ====
/-
  The steps that move and multiply blocks, run symbolically: a device's own block put in its slot, a block sent, a
  landing and a send awaited, a product stored and added to, the activation.
-/
module

public import proofs.«01_k».proof.Proof.StepWp

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m} {K : Dev nD × CI → ℕ} (c : Dev nD)

/-! ## The blocks -/

theorem tri_own : Tri m K c iprop(xAt m c ∗ tFree c c) (ownStep c) iprop(xAt m c ∗ tFull m c c) := fun Kt => by
  unfold ownStep xAt tFree tAt
  iintro ⟨-, ⟨Hx, ⟨%f, Ht⟩⟩, Hk⟩
  iapply (wp_load 𝒱₀ (c : Thread nD τ) none Set.univ (m := xM) (Finset.subset_univ _)) $$ Hx; iintro Hx
  iapply (wp_load 𝒱₀ (c : Thread nD τ) none Set.univ (m := tM) (loadT_sub (off4 c) _)) $$ Ht; iintro Ht
  iapply (wp_store 𝒱₀ (c : Thread nD τ) none Set.univ (m := tM) (r := rectT0 c) (Mk := Finset.univ) (storeT_sub (off4 c) _)) $$ Ht; iintro Ht
  rw [wp_ret]; imodintro
  iapply Hk
  isplitl [Hx]; · iexact Hx
  unfold tFull tAt
  iexists _
  isplitr
  swap
  · iexact Ht
  · ipureintro; rw [storeT (off4 c), readX (off3 c)]; rfl

/-- One addressed copy, over the block, slot and semaphores it names. -/
theorem tri_copy (t : Dev nD) (ht : t ≠ c) (f : Buf (Elt F) ((c : Thread nD τ).loc cc0_scratch0)) (hf : (slotS t).view.read (Elt F) f = blk m c t)
    (O : CellTallies nD τ sig Unit) (src : Memref sig .tc .vmem S256x256 .bf16) (hs : src = slotS t)
    (dst : Memref sig .tc .vmem S256x256 .bf16) (hd : dst = slotT c) (a b : DmaSem sig) (ha : a = semS t) (hb : b = semR c) {h0 h1 h2 h3} :
    Tri m K c iprop(owesE c (O + tallyAt (recvCell t c) () N) ∗ sAt c t f ∗ tFree t c ∗ dutyTok ER (sendCell c t) 0 (0 : Dev nD) ∗ dutyTok ER (recvCell t c) 0 (0 : Dev nD))
      (.op (.enqueueDma src (.remote (Dev.tc t) dst (.dma a) h0) (.dma b) h1 h2 h3) .ret)
      iprop(owesE c O ∗ cred (tallyAt (sendCell c t) () N)) := fun Kt => by
  subst hs hd ha hb
  unfold owesE tFree
  iintro ⟨#Hc, ⟨⟨%W, HO⟩, Hs, ⟨%g, Ht⟩, Hts, Htr⟩, Hk⟩
  ihave #Hsnd := (ctx_cell m K (c, .inr (.inl t))) $$ Hc
  icases Hsnd with ⟨#HIs, #HRs⟩
  ihave #Hrcv := (ctx_cell m K (t, .inr (.inr c))) $$ Hc
  icases Hrcv with ⟨#HIr, #HRr⟩
  unfold sAt tAt
  iapply (Rounds.wp_send_pointsTo 𝒱₀ ER (Rd m) (c : Thread nD τ) none (src := slotS t) (dst := slotT c) (κ₁ := K (c, .inr (.inl t))) (κ₂ := K (t, .inr (.inr c)))
    (c' := (t : Thread nD τ)) (sS := .dma (semS t)) (sem := .dma (semR c))
    (r₁ := 0) (r₂ := 0) (d₁ := (0 : Dev nD)) (d₂ := (0 : Dev nD)) (fs := f) (fd := g) (q := fullShare)
    (by rw [duties_zero, dut_send c ht]; exact Finset.mem_singleton_self _) (by rw [duties_zero, dut_recv t ht.symm]; exact Finset.mem_singleton_self _)
    () () N (credit_T c) (amount_send m c t 0) (amount_recv m t c 0) O rfl (W := W)
    (by
      rw [payload_send, set_slotS]; unfold sFree sAt
      iintro H; iexists f; iexact H)
    (by
      rw [payload_recv, set_slotT]; unfold tFull tAt
      iintro H
      iexists ((slotT c).view.write (Elt F) g ((slotS t).view.read (Elt F) f) Finset.univ)
      isplitr
      · ipureintro; rw [hf]; exact View.read_write_univ _ _
      · iexact H)) $$ [HO Hs Ht Hts Htr]
  · isplitr; · iexact HIs
    isplitr; · iexact HIr
    isplitl [Hs]; · rw [set_slotS]; iexact Hs
    isplitl [Ht]; · rw [set_slotT]; iexact Ht
    isplitl [HO]; · iexact HO
    isplitl [Hts]; · iexact Hts
    isplitr; · iexact HRs
    isplitl [Htr]; · iexact Htr
    iexact HRr
  iintro ⟨Hcr, HO⟩
  rw [wp_ret]; imodintro
  iapply Hk
  isplitl [HO]; · iexists W; iexact HO
  iexact Hcr

theorem tri_send (r : Fin 31) (O : CellTallies nD τ sig Unit) :
    Tri m K c iprop(xAt m c ∗ owesE c (O + tallyAt (recvCell (peer c r) c) () N) ∗ sFree c (peer c r) ∗ tFree (peer c r) c
        ∗ dutyTok ER (sendCell c (peer c r)) 0 (0 : Dev nD) ∗ dutyTok ER (recvCell (peer c r) c) 0 (0 : Dev nD))
      (sendStep c r) iprop(xAt m c ∗ owesE c O ∗ cred (tallyAt (sendCell c (peer c r)) () N)) := fun Kt => by
  unfold sendStep xAt sFree sAt
  iintro ⟨#Hc, ⟨Hx, HO, ⟨%f, Hs⟩, Ht, Hts, Htr⟩, Hk⟩
  iapply (wp_load 𝒱₀ (c : Thread nD τ) none Set.univ (m := xM) (Finset.subset_univ _)) $$ Hx; iintro Hx
  iapply (wp_load 𝒱₀ (c : Thread nD τ) none Set.univ (m := sM) (loadS_sub (off6 c r) _)) $$ Hs; iintro Hs
  iapply (wp_store 𝒱₀ (c : Thread nD τ) none Set.univ (m := sM) (r := rectS c r) (Mk := Finset.univ) (storeS_sub (off6 c r) _)) $$ Hs; iintro Hs
  have hf : (slotS (peer c r)).view.read (Elt F) ((sM.access (rectS c r)).write (Elt F) f (packed (xM.view.readAt (Elt F) (rectX c r).toLoadRect (xstg m c))) Finset.univ)
      = blk m c (peer c r) := by rw [storeS (off6 c r), readX (off5 c r)]; rfl
  iapply (tri_copy c (peer c r) (peer_ne c r) _ hf O _ (sendV_eq c r) _ (landV_eq c) _ _ (sendSem_eq c r) (landSem_eq c) Kt)
  isplitr; · iexact Hc
  isplitl [HO Hs Ht Hts Htr]
  · isplitl [HO]; · iexact HO
    isplitl [Hs]; · unfold sAt; iexact Hs
    isplitl [Ht]; · iexact Ht
    isplitl [Hts] <;> iassumption
  iintro ⟨HO, Hcr⟩
  iapply Hk
  isplitl [Hx]; · iexact Hx
  isplitl [HO] <;> iassumption

/-- A wait on a landing cell: the block of `s`. -/
theorem tri_recv (s : Dev nD) (hs : s ≠ c) (a : DmaSem sig) (ha : a = semR s) (src dst : Memref sig .tc .vmem S256x256 .bf16) (hd : dst = slotT s) {h1 h2} :
    Tri m K c iprop(owesE c 0 ∗ cred (tallyAt (recvCell c s) () N) ∗ atPos ER (recvCell c s) 0 ∅ 0)
      (.op (.waitDma2 a src dst h1 h2) .ret) iprop(owesE c 0 ∗ atPos ER (recvCell c s) (0 + 1) ∅ 0 ∗ tFull m c s) := fun Kt => by
  subst ha hd
  unfold owesE
  iintro ⟨#Hc, ⟨⟨%W, HO⟩, Hcr, Hat⟩, Hk⟩
  ihave #Hcell := (ctx_cell m K (c, .inr (.inr s))) $$ Hc
  icases Hcell with ⟨#HI, #HR⟩
  iapply (Rounds.wp_wait_rest_token 𝒱₀ ER (Rd m) (c : Thread nD τ) none (κ := K (c, .inr (.inr s))) (sm := .dma (semR s)) (k' := N)
      (w := .waitDma2 (semR s) src (slotT s) h1 h2) (fun Kt => wpE_waitDma2_eq 𝒱₀ (c : Thread nD τ) none Set.univ Kt) (Set.mem_univ _) () (O := 0) (W := W) (R := 0) (m := 0) (T := ∅)
      (by rw [expect_recv m c hs, Nat.zero_add])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_recv m c hs)) $$ Hpay
  rw [wp_ret]; imodintro
  iapply Hk
  isplitl [HO]; · iexists _; iexact HO
  isplitl [Hat] <;> iassumption

/-- A wait on a sending cell: the slot the block left from. -/
theorem tri_sent (t : Dev nD) (ht : t ≠ c) (a : DmaSem sig) (ha : a = semS t) (src dst : Memref sig .tc .vmem S256x256 .bf16) (hd : dst = slotS t) {h1 h2} :
    Tri m K c iprop(owesE c 0 ∗ cred (tallyAt (sendCell c t) () N) ∗ atPos ER (sendCell c t) 0 ∅ 0)
      (.op (.waitDma2 a src dst h1 h2) .ret) iprop(owesE c 0 ∗ atPos ER (sendCell c t) (0 + 1) ∅ 0 ∗ sFree c t) := fun Kt => by
  subst ha hd
  unfold owesE
  iintro ⟨#Hc, ⟨⟨%W, HO⟩, Hcr, Hat⟩, Hk⟩
  ihave #Hcell := (ctx_cell m K (c, .inr (.inl t))) $$ Hc
  icases Hcell with ⟨#HI, #HR⟩
  iapply (Rounds.wp_wait_rest_token 𝒱₀ ER (Rd m) (c : Thread nD τ) none (κ := K (c, .inr (.inl t))) (sm := .dma (semS t)) (k' := N)
      (w := .waitDma2 (semS t) src (slotS t) h1 h2) (fun Kt => wpE_waitDma2_eq 𝒱₀ (c : Thread nD τ) none Set.univ Kt) (Set.mem_univ _) () (O := 0) (W := W) (R := 0) (m := 0) (T := ∅)
      (by rw [expect_send m c ht, Nat.zero_add])) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq (rest_send m c ht)) $$ Hpay
  rw [wp_ret]; imodintro
  iapply Hk
  isplitl [HO]; · iexists _; iexact HO
  isplitl [Hat] <;> iassumption

/-! ## The products -/

theorem tri_prod0 (o) : Tri m K c iprop(tFull m c c ∗ vFull m c 0 c ∗ oAt c o) (prod0 c) iprop(tFull m c c ∗ vFull m c 0 c ∗ oAt c (acc m c 0)) := fun Kt => by
  unfold prod0 tFull tAt vFull vAt oAt
  iintro ⟨-, ⟨⟨%f, %hf, Ht⟩, ⟨%g, %hg, Hv⟩, Ho⟩, Hk⟩
  have h0 : k0_off11 c (BitVec.ofNat 32 (0 : Fin 32).val) = ![c.val, 0, 0] := (off11 c 0).trans (by rw [src_zero])
  iapply (wp_load 𝒱₀ (c : Thread nD τ) none Set.univ (m := tM) (loadT_sub h0 _)) $$ Ht; iintro Ht
  iapply (wp_load 𝒱₀ (c : Thread nD τ) none Set.univ (m := vM) (loadW_sub 0)) $$ Hv; iintro Hv
  iapply (wp_load 𝒱₀ (c : Thread nD τ) none Set.univ (m := oM) (Finset.subset_univ _)) $$ Ho; iintro Ho
  iapply (wp_store 𝒱₀ (c : Thread nD τ) none Set.univ (m := oM) (r := rectO) (Mk := Finset.univ) (Finset.subset_univ _)) $$ Ho; iintro Ho
  rw [writeO, prod_eq, readT h0, readW, hf, hg, wp_ret]; imodintro
  iapply Hk
  isplitl [Ht]
  · iexists f; isplitr; · ipureintro; exact hf
    iexact Ht
  isplitl [Hv]
  · iexists g; isplitr; · ipureintro; exact hg
    iexact Hv
  iexact Ho

theorem tri_acc (d : Fin 32) (b : Fin 2) (o) : Tri m K c iprop(tFull m c (src c d) ∗ vFull m c b (src c d) ∗ oAt c o) (prodAcc c d b)
    iprop(tFull m c (src c d) ∗ vFull m c b (src c d) ∗ oAt c (addf o (prodOf m c (src c d)))) := fun Kt => by
  unfold prodAcc tFull tAt vFull vAt oAt
  iintro ⟨-, ⟨⟨%f, %hf, Ht⟩, ⟨%g, %hg, Hv⟩, Ho⟩, Hk⟩
  iapply (wp_load 𝒱₀ (c : Thread nD τ) none Set.univ (m := tM) (loadT_sub (off11 c d) _)) $$ Ht; iintro Ht
  iapply (wp_load 𝒱₀ (c : Thread nD τ) none Set.univ (m := vM) (loadW_sub b)) $$ Hv; iintro Hv
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := rectO) (Mk := Finset.univ) (Finset.subset_univ _)) $$ Ho; iintro Ho
  rw [writeO, readO, accum_eq, readT (off11 c d), readW, hf, hg, wp_ret]; imodintro
  iapply Hk
  isplitl [Ht]
  · iexists f; isplitr; · ipureintro; exact hf
    iexact Ht
  isplitl [Hv]
  · iexists g; isplitr; · ipureintro; exact hg
    iexact Hv
  iexact Ho

theorem tri_gelu (o) : Tri m K c (oAt c o) (geluStep (F := F)) (oAt c (gelu o)) := fun Kt => by
  unfold geluStep oAt
  iintro ⟨-, Ho, Hk⟩
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := rectO) (Mk := Finset.univ) (Finset.subset_univ _)) $$ Ho; iintro Ho
  rw [writeO, readO, wp_ret]; imodintro
  iapply Hk; iexact Ho

end Cert.A2A

end
-- ==== Proof.BodyWp.lean ====
/-
  The body as a whole: its loops, and then the straight line of loops and steps, from what a device holds after its
  staging to what it holds at the end.
-/
module

public import proofs.«01_k».proof.Proof.BlockWp

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {K : Dev nD × CI → ℕ} (c : Dev nD)

/-! ## What each loop's steps take and give -/

def sigIn (r : Fin 31) : sProp 𝕄 := iprop(dutyTok ER (barCell (peer c r)) 0 c ∗ tFree c (peer c r))
def sendIn (r : Fin 31) : sProp 𝕄 :=
  iprop(sFree c (peer c r) ∗ dutyTok ER (sendCell c (peer c r)) 0 (0 : Dev nD) ∗ dutyTok ER (recvCell (peer c r) c) 0 (0 : Dev nD))
def sendCr (r : Fin 31) : sProp 𝕄 := cred (tallyAt (sendCell c (peer c r)) () N)
def recvIn (r : Fin 31) : sProp 𝕄 := iprop(cred (tallyAt (recvCell c (src c r.succ)) () N) ∗ atPos ER (recvCell c (src c r.succ)) 0 ∅ 0)
def recvOut (r : Fin 31) : sProp 𝕄 := iprop(atPos ER (recvCell c (src c r.succ)) (0 + 1) ∅ 0 ∗ tFree c (src c r.succ))
def sentIn (r : Fin 31) : sProp 𝕄 := atPos ER (sendCell c (peer c r)) 0 ∅ 0
def sentOut (r : Fin 31) : sProp 𝕄 := iprop(atPos ER (sendCell c (peer c r)) (0 + 1) ∅ 0 ∗ sFree c (peer c r))

/-- The state of the two streams before step `i + 1`: one fetching that step's rows, the other the next step's. -/
def streams (i : ℕ) : sProp 𝕄 :=
  iprop(Flt m c (par (i + 1)) (src c (Fin.ofNat 32 (i + 1))) ∗ Flt m c (par (i + 2)) (src c (Fin.ofNat 32 (i + 2))))

theorem par_two (i : ℕ) : par (i + 2) = par i := Fin.ext (Nat.add_mod_right i 2)
theorem ofNat_succ (r : Fin 31) : Fin.ofNat 32 (r.val + 1) = r.succ := Fin.ext (by
  have := r.isLt; show (r.val + 1) % 32 = _; rw [Fin.val_succ]; omega)

/-! ## The loops -/

theorem tri_sigs : Tri m K c iprop(owesE c (O₀ c) ∗ bigSep Finset.univ (sigIn c)) (seqAll (sigStep c)) (owesE c (owedR c 0)) := by
  refine (tri_seq (fun i => owesE c (owedR c 0 + owedB c i)) (sigIn c) (fun _ => iprop(emp)) fun r => ?_).conseq (Entails.of_eq rfl) ?_
  · refine (tri_sig m c r (owedR c 0 + owedB c (r.val + 1))).conseq ?_ ?_
    · rw [owedB_step c r.isLt, ← add_assoc]; unfold sigIn; exact Entails.of_eq rfl
    · iintro H; isplitl; · iexact H
      iempintro
  · rw [owedB_end, add_zero]; iintro ⟨H, -⟩; iexact H

theorem tri_sends : Tri m K c iprop((xAt m c ∗ owesE c (owedR c 0)) ∗ bigSep Finset.univ fun r => iprop(sendIn c r ∗ tFree (peer c r) c)) (seqAll (sendStep c))
    iprop((xAt m c ∗ owesE c 0) ∗ bigSep Finset.univ (sendCr c)) := by
  refine (tri_seq (fun i => iprop(xAt m c ∗ owesE c (owedR c i))) (fun r => iprop(sendIn c r ∗ tFree (peer c r) c)) (sendCr c) fun r => ?_).conseq (Entails.of_eq rfl) ?_
  · refine (tri_send c r (owedR c (r.val + 1))).conseq ?_ ?_
    · rw [owedR_step c r.isLt]; unfold sendIn
      iintro ⟨⟨Hx, HO⟩, ⟨Hs, Ht1, Ht2⟩, Ht⟩
      isplitl [Hx]; · iexact Hx
      isplitl [HO]; · iexact HO
      isplitl [Hs]; · iexact Hs
      isplitl [Ht]; · iexact Ht
      isplitl [Ht1] <;> iassumption
    · unfold sendCr
      iintro ⟨Hx, HO, Hc⟩
      isplitl [Hx HO]
      · isplitl [Hx] <;> iassumption
      iexact Hc
  · rw [owedR_end]

theorem tri_core (r : Fin 31) : Tri m K c iprop((owesE c 0 ∗ oAt c (acc m c r.val)) ∗ Flt m c (par (r.val + 1)) (src c r.succ) ∗ recvIn c r)
    (coreStep c r) iprop((owesE c 0 ∗ oAt c (acc m c (r.val + 1))) ∗ vIdle m c (par (r.val + 1)) ∗ recvOut c r) := by
  unfold coreStep recvIn recvOut
  refine Tri.bind (Q := iprop((owesE c 0 ∗ atPos ER (recvCell c (src c r.succ)) (0 + 1) ∅ 0 ∗ tFull m c (src c r.succ)) ∗ oAt c (acc m c r.val) ∗ Flt m c (par (r.val + 1)) (src c r.succ)))
    (((tri_recv c _ (src_ne c r) _ (recvSem_eq c r) _ _ (recvV_eq c r)).frame iprop(oAt c (acc m c r.val) ∗ Flt m c (par (r.val + 1)) (src c r.succ))).conseq ?_ (Entails.refl _)) ?_
  · iintro ⟨⟨HO, Ho⟩, HF, Hcr, Hat⟩
    isplitl [HO Hcr Hat]
    · isplitl [HO]; · iexact HO
      isplitl [Hcr] <;> iassumption
    isplitl [Ho] <;> iassumption
  refine Tri.bind (Q := iprop((owesE c 0 ∗ vHave m c (par (r.val + 1)) (src c r.succ)) ∗ oAt c (acc m c r.val) ∗ atPos ER (recvCell c (src c r.succ)) (0 + 1) ∅ 0 ∗ tFull m c (src c r.succ)))
    (((tri_waitW m c (par (r.val + 1)) (src c r.succ) _).frame iprop(oAt c (acc m c r.val) ∗ atPos ER (recvCell c (src c r.succ)) (0 + 1) ∅ 0 ∗ tFull m c (src c r.succ))).conseq ?_ (Entails.refl _)) ?_
  · iintro ⟨⟨HO, Hat, Ht⟩, Ho, HF⟩
    isplitl [HO HF]
    · isplitl [HO] <;> iassumption
    isplitl [Ho]; · iexact Ho
    isplitl [Hat] <;> iassumption
  refine ((tri_acc c r.succ (par (r.val + 1)) (acc m c r.val)).frame iprop(owesE c 0 ∗ atPos ER (recvCell c (src c r.succ)) (0 + 1) ∅ 0
      ∗ wHalf m c (par (r.val + 1)) ∗ semVal ((c : Thread nD τ), .dma (semW (par (r.val + 1)))) 0)).conseq ?_ ?_
  · unfold vHave
    iintro ⟨⟨HO, Hv, Hw⟩, Ho, Hat, Ht⟩
    isplitl [Ht Hv Ho]
    · isplitl [Ht]; · iexact Ht
      isplitl [Hv] <;> iassumption
    isplitl [HO]; · iexact HO
    isplitl [Hat] <;> iassumption
  · rw [show acc m c (r.val + 1) = addf (acc m c r.val) (prodOf m c (src c r.succ)) from by rw [← ofNat_succ]; rfl]
    iintro ⟨⟨Ht, Hv, Ho⟩, HO, Hat, Hw⟩
    isplitl [HO Ho]
    · isplitl [HO] <;> iassumption
    isplitl [Hv Hw]
    · iapply (vHave_idle m c (par (r.val + 1)) (src c r.succ)); unfold vHave; isplitl [Hv] <;> iassumption
    isplitl [Hat]; · iexact Hat
    iapply (tFull_free m c (src c r.succ)); iexact Ht

/-- The first twenty-nine of the thirty-one. -/
def low (r : Fin 29) : Fin 31 := ⟨r.val, by omega⟩
theorem low_inj : Function.Injective low := by decide

theorem tri_mids : Tri m K c iprop(((owesE c 0 ∗ oAt c (acc m c 0)) ∗ streams m c 0) ∗ bigSep Finset.univ fun r => recvIn c (low r)) (seqAll (midStep c))
    iprop(((owesE c 0 ∗ oAt c (acc m c 29)) ∗ streams m c 29) ∗ bigSep Finset.univ fun r => recvOut c (low r)) := by
  refine tri_seq (fun i => iprop((owesE c 0 ∗ oAt c (acc m c i)) ∗ streams m c i)) (fun r => recvIn c (low r)) (fun r => recvOut c (low r)) fun r => ?_
  unfold midStep
  have h1 : src c (Fin.ofNat 32 (r.val + 1)) = src c (low r).succ := congrArg (src c) (ofNat_succ (low r))
  have h3 : (⟨r.val + 3, by omega⟩ : Fin 32) = Fin.ofNat 32 (r.val + 3) := Fin.ext (by have := r.isLt; show r.val + 3 = (r.val + 3) % 32; omega)
  refine Tri.bind (Q := iprop(((owesE c 0 ∗ oAt c (acc m c (r.val + 1))) ∗ vIdle m c (par (r.val + 1)) ∗ recvOut c (low r)) ∗ Flt m c (par (r.val + 2)) (src c (Fin.ofNat 32 (r.val + 2)))))
    (((tri_core m c (low r)).frame (Flt m c (par (r.val + 2)) (src c (Fin.ofNat 32 (r.val + 2))))).conseq ?_ (Entails.refl _)) ?_
  · unfold streams; rw [h1]
    iintro ⟨⟨HI, HF, HF'⟩, HA⟩
    isplitl [HI HF HA]
    · isplitl [HI]; · iexact HI
      isplitl [HF]; · iexact HF
      iexact HA
    iexact HF'
  · refine ((tri_start m c (par (r.val + 3)) (src c (Fin.ofNat 32 (r.val + 3))) _ (by rw [h3]; exact rowsW_eq c _)).frame
      iprop((owesE c 0 ∗ oAt c (acc m c (r.val + 1))) ∗ recvOut c (low r) ∗ Flt m c (par (r.val + 2)) (src c (Fin.ofNat 32 (r.val + 2))))).conseq ?_ ?_
    · rw [show par (r.val + 3) = par (r.val + 1) from par_two (r.val + 1)]
      iintro ⟨⟨HI, Hv, HB⟩, HF⟩
      isplitl [Hv]; · iexact Hv
      isplitl [HI]; · iexact HI
      isplitl [HB] <;> iassumption
    · unfold streams
      iintro ⟨HF', HI, HB, HF⟩
      isplitl [HI HF HF']
      · isplitl [HI]; · iexact HI
        isplitl [HF] <;> iassumption
      iexact HB

theorem tri_waits : Tri m K c iprop(owesE c 0 ∗ bigSep Finset.univ fun r => iprop(sendCr c r ∗ sentIn c r)) (seqAll (waitSend c))
    iprop(owesE c 0 ∗ bigSep Finset.univ (sentOut c)) :=
  tri_seq (fun _ => owesE c 0) (fun r => iprop(sendCr c r ∗ sentIn c r)) (sentOut c) fun r =>
    tri_sent c (peer c r) (peer_ne c r) _ (sendSem_eq c r) _ _ (sendV_eq c r)

/-! ## The whole body -/

theorem bigSep_peer (Φ : Dev nD → sProp 𝕄) : bigSep (Finset.univ.erase c) Φ = bigSep Finset.univ fun r : Fin 31 => Φ (peer c r) := by
  rw [← image_peer c]; exact bigSep_image_of_injOn (fun a _ b _ h => peer_inj c h) Φ

theorem split31 (Φ : Fin 31 → sProp 𝕄) : bigSep Finset.univ Φ = iprop(Φ 29 ∗ Φ 30 ∗ bigSep Finset.univ fun r : Fin 29 => Φ (low r)) := by
  rw [show (Finset.univ : Finset (Fin 31)) = insert 29 (insert 30 (Finset.univ.image low)) from by decide, bigSep_ins (by decide), bigSep_ins (by decide),
    bigSep_image_of_injOn low_inj.injOn Φ]

def bodyIn : sProp 𝕄 :=
  iprop(owesE c (O₀ c) ∗ xAt m c ∗ (∃ o, oAt c o) ∗ bigSep Finset.univ (sigIn c) ∗ cred (tallyAt (barCell c) () 31) ∗ atPos ER (barCell c) 0 ∅ 0
    ∗ vIdle m c 0 ∗ vIdle m c 1 ∗ tFree c c ∗ bigSep Finset.univ (sendIn c) ∗ bigSep Finset.univ (recvIn c) ∗ bigSep Finset.univ (sentIn c))
def bodyOut : sProp 𝕄 :=
  iprop(owesE c 0 ∗ xAt m c ∗ oAt c (outAt m c) ∗ atPos ER (barCell c) (0 + 1) ∅ 0
    ∗ vIdle m c 0 ∗ vIdle m c 1 ∗ tFree c c ∗ bigSep Finset.univ (recvOut c) ∗ bigSep Finset.univ (sentOut c))

variable {m c} in
/-- A step at the head, the rest waiting for what it gives. -/
theorem step_head {P Q : sProp 𝕄} {p q : Prog (TEff F) PUnit} {Kt : PUnit → sProp 𝕄} (h : Tri m K c P p Q) :
    iprop(ctx m K ∗ P ∗ (Q -∗ WP c q Kt)) ⊢ WP c (p.bind fun _ => q) Kt :=
  (h fun _ => WP c q Kt).trans (Entails.of_eq (wp_bind frame (wpE (defs₀ (F := F)) 𝒱₀ (c : Thread nD τ) none) Set.univ p (fun _ => q) Kt).symm)

theorem tri_body : Tri m K c (bodyIn m c) (bodyAt c) (bodyOut m c) := fun Kt => by
  unfold bodyIn bodyAt
  iintro ⟨#Hc, ⟨HO, Hx, ⟨%o, Ho⟩, Hsig, HcB, HaB, Hv0, Hv1, Ht, Hsend, Hrecv, Hsent⟩, Hk⟩
  iapply (step_head (tri_sigs m c)); isplitr; · iexact Hc
  isplitl [HO Hsig]
  · isplitl [HO] <;> iassumption
  iintro HO
  iapply (step_head (tri_bar m c)); isplitr; · iexact Hc
  isplitl [HO HcB HaB]
  · isplitl [HO]; · iexact HO
    isplitl [HcB] <;> iassumption
  iintro ⟨HO, HaB, Hland⟩
  ihave Hland := (Entails.of_eq (bigSep_peer c fun d => (tFree d c : sProp 𝕄))) $$ Hland
  iapply (step_head (tri_start m c 0 c _ (rowsW0_eq c))); isplitr; · iexact Hc
  isplitl [Hv0]; · iexact Hv0
  iintro HF0
  iapply (step_head (tri_start m c 1 (src c 1) _ (rowsW_eq c 1))); isplitr; · iexact Hc
  isplitl [Hv1]; · iexact Hv1
  iintro HF1
  iapply (step_head (tri_own c)); isplitr; · iexact Hc
  isplitl [Hx Ht]
  · isplitl [Hx] <;> iassumption
  iintro ⟨Hx, Ht⟩
  iapply (step_head (tri_sends m c)); isplitr; · iexact Hc
  isplitl [Hx HO Hsend Hland]
  · isplitl [Hx HO]
    · isplitl [Hx] <;> iassumption
    rw [bigSep_sep']
    isplitl [Hsend] <;> iassumption
  iintro ⟨⟨Hx, HO⟩, Hcr⟩
  iapply (step_head (tri_waitW m c 0 c _)); isplitr; · iexact Hc
  isplitl [HO HF0]
  · isplitl [HO] <;> iassumption
  unfold vHave
  iintro ⟨HO, Hv, Hw⟩
  iapply (step_head (tri_prod0 c o)); isplitr; · iexact Hc
  isplitl [Ht Hv Ho]
  · isplitl [Ht]; · iexact Ht
    isplitl [Hv] <;> iassumption
  iintro ⟨Ht, Hv, Ho⟩
  iapply (step_head (tri_start m c 0 (src c 2) _ (rowsW_eq c 2))); isplitr; · iexact Hc
  isplitl [Hv Hw]
  · iapply (vHave_idle m c 0 c); unfold vHave; isplitl [Hv] <;> iassumption
  iintro HF0
  ihave Hr := (Entails.of_eq (split31 (recvIn c : Fin 31 → sProp 𝕄))) $$ Hrecv
  icases Hr with ⟨Hr29, Hr30, Hrlow⟩
  iapply (step_head (tri_mids m c)); isplitr; · iexact Hc
  isplitl [HO Ho HF0 HF1 Hrlow]
  · isplitl [HO Ho HF0 HF1]
    · isplitl [HO Ho]
      · isplitl [HO] <;> iassumption
      unfold streams
      isplitl [HF1]; · iexact HF1
      iexact HF0
    iexact Hrlow
  unfold streams
  iintro ⟨⟨HI, HF0, HF1⟩, Hblow⟩
  iapply (step_head (tri_core m c 29)); isplitr; · iexact Hc
  isplitl [HI HF0 Hr29]
  · isplitl [HI]; · iexact HI
    isplitl [HF0]; · iexact HF0
    iexact Hr29
  iintro ⟨HI, Hv0, Hb29⟩
  iapply (step_head (tri_core m c 30)); isplitr; · iexact Hc
  isplitl [HI HF1 Hr30]
  · isplitl [HI]; · iexact HI
    isplitl [HF1]; · iexact HF1
    iexact Hr30
  iintro ⟨⟨HO, Ho⟩, Hv1, Hb30⟩
  iapply (step_head (tri_waits m c)); isplitr; · iexact Hc
  isplitl [HO Hcr Hsent]
  · isplitl [HO]; · iexact HO
    rw [bigSep_sep']
    isplitl [Hcr] <;> iassumption
  iintro ⟨HO, Hsent⟩
  iapply (tri_gelu (m := m) (K := K) c (acc m c 31) Kt); isplitr; · iexact Hc
  isplitl [Ho]; · iexact Ho
  iintro Ho
  iapply Hk
  unfold bodyOut
  isplitl [HO]; · iexact HO
  isplitl [Hx]; · iexact Hx
  isplitl [Ho]; · iexact Ho
  isplitl [HaB]; · iexact HaB
  isplitl [Hv0]; · iexact Hv0
  isplitl [Hv1]; · iexact Hv1
  isplitl [Ht]; · iapply (tFull_free m c c); iexact Ht
  isplitl [Hblow Hb29 Hb30]
  · rw [split31]
    isplitl [Hb29]; · iexact Hb29
    isplitl [Hb30] <;> iassumption
  iexact Hsent

end Cert.A2A

end
-- ==== Proof.Ghost.lean ====
/-
  What the launch deals. The cells of every device are minted with their duty tokens; their invariants are allocated on the
  semaphores at zero; the tokens are dealt to the devices that pay them. What the others owe a device is its credit.
-/
module

public import proofs.«01_k».proof.Proof.BodyWp

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the devices -/

theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem bigSep_one (Φ : Unit → sProp 𝕄) : bigSep Finset.univ Φ = Φ () := by
  rw [show (Finset.univ : Finset Unit) = {()} from rfl, bigSep_singleton]

theorem bigSep_self (c : Dev nD) (Φ : Dev nD → sProp 𝕄) : bigSep Finset.univ Φ = iprop(Φ c ∗ bigSep (Finset.univ.erase c) Φ) :=
  bigSep_erase (Finset.mem_univ c)
theorem bigSep_src (c : Dev nD) (Φ : Dev nD → sProp 𝕄) :
    bigSep (Finset.univ.erase c) Φ = bigSep Finset.univ fun r : Fin 31 => Φ (src c r.succ) := by
  rw [← image_src c]
  exact bigSep_image_of_injOn (s := Finset.univ) (f := fun r : Fin 31 => src c r.succ) (fun a _ b _ h => Fin.succ_injective _ (src_inj c h)) Φ
/-- A device's own, and its peers' — by the step that sends to them, or the step that receives from them. -/
theorem bigSep_devs (c : Dev nD) (Φ : Dev nD → sProp 𝕄) : bigSep Finset.univ Φ = iprop(Φ c ∗ bigSep Finset.univ fun r : Fin 31 => Φ (peer c r)) := by
  rw [bigSep_self c, bigSep_peer]
theorem bigSep_srcs (c : Dev nD) (Φ : Dev nD → sProp 𝕄) : bigSep Finset.univ Φ = iprop(Φ c ∗ bigSep Finset.univ fun r : Fin 31 => Φ (src c r.succ)) := by
  rw [bigSep_self c, bigSep_src]

/-! ## The kernel's own semaphores -/

/-- A sending semaphore per target, a landing semaphore per source, and the two streams' own. -/
abbrev OI : Type := (Dev nD ⊕ Dev nD) ⊕ Fin 2
def osem : OI → SemLoc sig
  | .inl (.inl t) => .dma (semS t)
  | .inl (.inr s) => .dma (semR s)
  | .inr b => .dma (semW b)

theorem ownSemFacts : Pipeline.OwnSemFacts cfg0.spec osem := by decide +kernel

abbrev ownZero (c : Dev nD) : sProp 𝕄 := Pipeline.ownSems0 (Ix := Unit) (Name := ℕ) (U := UU) (Lvl := ℕ) (Val := Elt F) (τ := τ) osem c
abbrev wZero (c : Dev nD) : sProp 𝕄 := bigSep Finset.univ fun b : Fin 2 => semVal ((c : Thread nD τ), .dma (semW b)) 0

theorem ownZero_eq (c : Dev nD) : (ownZero c : sProp 𝕄)
    = iprop(((bigSep Finset.univ fun t => semVal (sendCell c t) 0) ∗ bigSep Finset.univ fun s => semVal (recvCell c s) 0) ∗ wZero c) := by
  dsimp only [ownZero]
  unfold Pipeline.ownSems0; rw [bigSep_sum, bigSep_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells_eq (c : Dev nD) (Φ : GSem nD τ sig → sProp 𝕄) : (bigSep Finset.univ fun k : CI => Φ (kcell (c, k)))
    = iprop(Φ (barCell c) ∗ (bigSep Finset.univ fun t => Φ (sendCell c t)) ∗ bigSep Finset.univ fun s => Φ (recvCell c s)) := by
  rw [bigSep_sum, bigSep_one, bigSep_sum]; rfl

theorem sems0_eq (c : Dev nD) : iprop(ownZero c ∗ unscopedSems0 c) ⊢ (iprop((bigSep Finset.univ fun k : CI => semVal (kcell (c, k)) 0) ∗ wZero c) : sProp 𝕄) := by
  rw [ownZero_eq, unscopedSems0_eq, cells_eq c (fun g => semVal g 0)]
  iintro ⟨⟨⟨HS, HR⟩, HW⟩, HB⟩
  isplitr [HW]
  · isplitl [HB]; · iexact HB
    isplitl [HS] <;> iassumption
  iexact HW

/-! ## The cells and tokens minted -/

theorem csem_inj : Function.Injective csem := by
  rintro (⟨⟩ | t | s) (⟨⟩ | t' | s') h
  · rfl
  · exact absurd h.symm (semS_ne_bar t')
  · exact absurd h.symm (semR_ne_bar s')
  · exact absurd h (semS_ne_bar t)
  · rw [semS_inj (SemLoc.dma.inj h)]
  · exact absurd (SemLoc.dma.inj h) (semS_ne_semR t s')
  · exact absurd h (semR_ne_bar s)
  · exact absurd (SemLoc.dma.inj h).symm (semS_ne_semR t' s)
  · rw [semR_inj (SemLoc.dma.inj h)]
theorem kcell_inj : Function.Injective (kcell : Dev nD × CI → GSem nD τ sig) := by
  rintro ⟨c, k⟩ ⟨c', k'⟩ h
  have h1 : c = c' := congrArg (fun g : GSem nD τ sig => g.1.1) h
  exact Prod.ext h1 (csem_inj (congrArg Prod.snd h))

/-- Which duty: a barrier's, by payer; a sending cell's; a landing cell's. -/
abbrev TI : Type := Dev nD ⊕ (Dev nD ⊕ Dev nD)
def tokKey : TI → CI × Dev nD
  | .inl p => (.inl (), p)
  | .inr k => (.inr k, 0)
theorem tokKey_inj : Function.Injective tokKey := by
  rintro (p | k) (p' | k') h
  · rw [show p = p' from congrArg Prod.snd h]
  · exact absurd (congrArg Prod.fst h) Sum.inl_ne_inr
  · exact absurd (congrArg Prod.fst h) Sum.inr_ne_inl
  · rw [Sum.inr_injective (congrArg Prod.fst h)]
def tokOf (ck : Dev nD × TI) : GSem nD τ sig × ℕ × Dev nD := (kcell (ck.1, (tokKey ck.2).1), 0, (tokKey ck.2).2)
theorem tokOf_inj : Function.Injective tokOf := by
  rintro ⟨c, k⟩ ⟨c', k'⟩ h
  have h1 := kcell_inj (congrArg (fun x : GSem nD τ sig × ℕ × Dev nD => x.1) h)
  have h2 : (tokKey k).2 = (tokKey k').2 := congrArg (fun x : GSem nD τ sig × ℕ × Dev nD => x.2.2) h
  have h3 : c = c' := congrArg Prod.fst h1
  exact Prod.ext h3 (tokKey_inj (Prod.ext (congrArg Prod.snd h1) h2))

def allCells : Finset (GSem nD τ sig) := Finset.univ.map ⟨kcell, kcell_inj⟩
def allToks : Finset (GSem nD τ sig × ℕ × Dev nD) := Finset.univ.map ⟨tokOf, tokOf_inj⟩
def u₀ : UU := (initOf (Pipeline.cells cfgs cellOf_inj) (Pipeline.launchToks cfgs cellOf_inj), (initOf allCells allToks, 1))

def toks (c : Dev nD) : sProp 𝕄 := bigSep Finset.univ fun k : TI => dutyTok ER (tokOf (c, k)).1 (tokOf (c, k)).2.1 (tokOf (c, k)).2.2
abbrev posOf (c : Dev nD) : sProp 𝕄 := bigSep Finset.univ fun k : CI => atPos ER (kcell (c, k)) 0 ∅ 0
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb (embR : Emb (UB × Counters) 𝕄) _ _) $$ HX
  icases H with ⟨HX, -⟩
  imod (fund_cells m) $$ HX with HG
  imodintro
  isplitl [HP] <;> iassumption

/-! ## Dealt -/

/-- The tokens of the duties device `c` pays. -/
def payToks (c : Dev nD) : sProp 𝕄 :=
  iprop((bigSep Finset.univ fun t => dutyTok ER (barCell t) 0 c) ∗ (bigSep Finset.univ fun t => dutyTok ER (sendCell c t) 0 0)
    ∗ bigSep Finset.univ fun t => dutyTok ER (recvCell t c) 0 0)
def G' (c : Dev nD) : sProp 𝕄 := iprop((∃ K, records m K ∗ posOf c ∗ payToks c) ∗ wZero c)

theorem core_alloc (c : Dev nD) :
    iprop(ownZero c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ wZero c) := by
  unfold G
  iintro ⟨Hos, Hus, Hst, Hat, Htok⟩
  ihave Hv := (sems0_eq (F := F) c) $$ [Hos Hus]
  · isplitl [Hos] <;> iassumption
  icases Hv with ⟨Hv, HW⟩
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem toks_dealt : (bigSep Finset.univ fun c : Dev nD => (toks c : sProp 𝕄)) ⊢ bigSep Finset.univ fun c : Dev nD => payToks c := by
  have h (c : Dev nD) : (toks c : sProp 𝕄) = iprop((bigSep Finset.univ fun p => dutyTok ER (barCell c) 0 p)
      ∗ (bigSep Finset.univ fun t => dutyTok ER (sendCell c t) 0 0) ∗ bigSep Finset.univ fun s => dutyTok ER (recvCell c s) 0 0) := by
    unfold toks; rw [bigSep_sum, bigSep_sum]; rfl
  unfold payToks
  rw [bigSep_congr fun c _ => h c, bigSep_sep', bigSep_sep', bigSep_sep', bigSep_sep',
    bigSep_univ_comm (fun c p : Dev nD => (dutyTok ER (barCell c) 0 p : sProp 𝕄)),
    bigSep_univ_comm (fun c s : Dev nD => (dutyTok ER (recvCell c s) 0 0 : sProp 𝕄))]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ wZero c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, HW⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_dealt (F := F)) $$ Htok
  iapply (with_persistent (R := records m K) (Φ := fun c => iprop(posOf c ∗ payToks c ∗ wZero c)) fun c _ => by
    unfold G'
    iintro ⟨HR, Hp, Ht, HW⟩
    isplitr [HW]
    · iexists K
      isplitl [HR]; · iexact HR
      isplitl [Hp] <;> iassumption
    iexact HW)
  isplitr
  · unfold records; isplitl; · iexact HI
    iexact HR
  · rw [bigSep_sep', bigSep_sep']
    isplitl [Hat]; · iexact Hat
    isplitl [Htk] <;> iassumption

theorem glob : (bigSep Finset.univ fun c => iprop(ownZero c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedR_at (d : Dev nD) (g : GSem nD τ sig) : owedR d 0 g () = ∑ r : Fin 31, if g = recvCell (peer d r) d then N else 0 := by
  unfold owedR; rw [rest_zero, Finset.sum_apply, Finsupp.finset_sum_apply]
  exact Finset.sum_congr rfl fun r _ => by rw [tallyAt_apply]; simp only [and_true]
theorem owedB_at (d : Dev nD) (g : GSem nD τ sig) : owedB d 0 g () = ∑ r : Fin 31, if g = barCell (peer d r) then 1 else 0 := by
  unfold owedB; rw [rest_zero, Finset.sum_apply, Finsupp.finset_sum_apply]
  exact Finset.sum_congr rfl fun r _ => by rw [tallyAt_apply]; simp only [and_true]
theorem O₀_at (d : Dev nD) (g : GSem nD τ sig) : O₀ d g () = owedR d 0 g () + owedB d 0 g () := by
  unfold O₀; rw [Pi.add_apply, Finsupp.add_apply]

theorem bar_inj {a b : Dev nD} (h : barCell a = barCell b) : a = b := congrArg (fun g : GSem nD τ sig => g.1.1) h
theorem recv_inj {a b s t : Dev nD} (h : recvCell a s = recvCell b t) : a = b ∧ s = t :=
  ⟨congrArg (fun g : GSem nD τ sig => g.1.1) h, semR_inj (SemLoc.dma.inj (congrArg Prod.snd h))⟩
theorem bar_ne_recv (a b s : Dev nD) : barCell a ≠ recvCell b s := fun h => semR_ne_bar s (congrArg Prod.snd h).symm

theorem total_bar (c : Dev nD) : ∑ d : Dev nD, O₀ d (barCell c) () = 31 := by
  have h (d : Dev nD) : O₀ d (barCell c) () = ∑ r : Fin 31, if d = src c r.succ then 1 else 0 := by
    rw [O₀_at, owedR_at, owedB_at, Finset.sum_eq_zero fun r _ => if_neg (bar_ne_recv _ _ _), Nat.zero_add]
    refine Finset.sum_congr rfl fun r _ => if_congr ⟨fun h => ?_, fun h => ?_⟩ rfl rfl
    · rw [bar_inj h, src_peer]
    · rw [h, peer_src]
  rw [Finset.sum_congr rfl fun d _ => h d, Finset.sum_comm, Finset.sum_congr rfl fun r _ => Finset.sum_ite_eq' Finset.univ (src c r.succ) fun _ => 1]
  simp
theorem total_recv (c : Dev nD) (i : Fin 31) : ∑ d : Dev nD, O₀ d (recvCell c (src c i.succ)) () = N := by
  have h (d : Dev nD) : O₀ d (recvCell c (src c i.succ)) () = ∑ r : Fin 31, if r = i then (if d = src c i.succ then N else 0) else 0 := by
    rw [O₀_at, owedR_at, owedB_at, Finset.sum_eq_zero (f := fun r : Fin 31 => if recvCell c (src c i.succ) = barCell (peer d r) then 1 else 0)
      fun r _ => if_neg (bar_ne_recv _ _ _).symm, Nat.add_zero]
    refine Finset.sum_congr rfl fun r _ => ?_
    rw [← ite_and]
    refine if_congr ⟨fun h => ?_, fun ⟨h1, h2⟩ => ?_⟩ rfl rfl
    · obtain ⟨h1, h2⟩ := recv_inj h
      refine ⟨peer_inj d ?_, h2.symm⟩
      rw [← h1, ← h2, peer_src]
    · rw [h1, h2, peer_src]
  rw [Finset.sum_congr rfl fun d _ => h d, Finset.sum_comm, Finset.sum_eq_single i (fun r _ hr => by simp [hr]) (fun hn => absurd (Finset.mem_univ _) hn)]
  simp

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, total_bar]
theorem launch_recv (c : Dev nD) (i : Fin 31) :
    tallyOn (recvCell c (src c i.succ)) (launchCredit (Pipeline.owing O₀) 0 (recvCell c (src c i.succ)))
      = (tallyAt (recvCell c (src c i.succ)) () N : CellTallies nD τ sig Unit) := by
  unfold tallyAt; refine congrArg _ (Finsupp.ext fun u => ?_); cases u
  rw [Pipeline.launchCredit_owing, Finsupp.single_eq_same, total_recv]

theorem keep_some {I : Type} [DecidableEq I] {S : Finset I} (f : Fin 31 → I) (hf : Function.Injective f) (hS : ∀ r, f r ∈ S) (Φ : I → sProp 𝕄) :
    bigSep S Φ ⊢ bigSep Finset.univ fun r => Φ (f r) := by
  rw [← bigSep_image_of_injOn (s := Finset.univ) hf.injOn]
  exact bigSep_subset fun q hq => by obtain ⟨r, -, rfl⟩ := Finset.mem_image.mp hq; exact hS r

theorem creds (c : Dev nD) : (Pipeline.launchCred O₀ c : sProp 𝕄)
    ⊢ iprop(cred (tallyAt (barCell c) () 31) ∗ bigSep Finset.univ fun r : Fin 31 => cred (tallyAt (recvCell c (src c r.succ)) () N)) := by
  unfold Pipeline.launchCred
  rw [bigSep_univ_at _ (SemLoc.reg barS), launch_bar]
  refine sep_mono_right ?_
  refine BIBase.Entails.trans (keep_some (fun r : Fin 31 => (SemLoc.dma (semR (src c r.succ)) : SemLoc sig))
    (fun a b h => Fin.succ_injective _ (src_inj c (semR_inj (SemLoc.dma.inj h))))
    (fun r => Finset.mem_erase.mpr ⟨semR_ne_bar _, Finset.mem_univ _⟩) _) (bigSep_mono fun r _ => ?_)
  rw [launch_recv]; exact Entails.refl _

end Cert.A2A

end
-- ==== Proof.BodyEq.lean ====
/-
  The printed body is the loops of `Steps`, by unfolding both.
-/
module

public import proofs.«01_k».proof.Proof.Steps

@[expose] public section

noncomputable section

namespace Cert.A2A

open Cert.KernelIdeal Cert.KernelIdeal.Gen
open Idealize.ShloMosaic Idealize.SL.Sem

variable {F : FTy → Type} [FloatOps F]

set_option maxRecDepth 65536 in
set_option maxHeartbeats 0 in
/-- The printed body reads its device and does that. -/
theorem body_eq : cc0_body (F := F) xM (Memref.isWhole_whole _) wM (Memref.isWhole_whole _) oM (Memref.isWhole_whole _)
    sM sW tM tW vM (Memref.isWhole_whole _) cc0_scratch3 cc0_scratch4 cc0_scratch5 = .op .deviceId fun c => bodyAt c := rfl

end Cert.A2A

end
-- ==== Proof.BodyOb.lean ====
/-
  The launch and the run: the pipeline's data, the body's obligation from its triple, what each device starts from and what
  it gives back, and from the library's launch theorem the run of the whole program.
-/
module

public import proofs.«01_k».proof.Proof.Ghost
public import proofs.«01_k».proof.Proof.BodyEq
public import Idealize.ShloMosaic.Lib.Pipeline.CollectiveSegs
public import Idealize.ShloMosaic.Lib.Quiescent

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A scratch and its slots -/

theorem slots_open {ℓ : Loc nD τ sig} {T : Type} [Fintype T] (S : T → Finset (Idx ℓ)) (hc : Finset.univ.biUnion S = Finset.univ)
    (hd : ∀ s t, s ≠ t → Disjoint (S s) (S t)) :
    iprop(∃ f : Buf (Elt F) ℓ, ℓ ↦{fullShare} f) ⊢ (bigSep Finset.univ fun t => iprop(∃ f : Buf (Elt F) ℓ, ℓ ↦[S t]{fullShare} f) : sProp 𝕄) := by
  iintro ⟨%f, H⟩
  have h : (ℓ ↦{fullShare} f : sProp 𝕄) ⊢ bigSep Finset.univ fun t => iprop(∃ f : Buf (Elt F) ℓ, ℓ ↦[S t]{fullShare} f) := by
    rw [← hc, pointsTo_biUnion Finset.univ S fun s _ t _ hst => hd s t hst]
    exact bigSep_mono fun t _ => show (ℓ ↦[S t]{fullShare} f : sProp 𝕄) ⊢ iprop(∃ f : Buf (Elt F) ℓ, ℓ ↦[S t]{fullShare} f) from by
      iintro H; iexists f; iexact H
  iapply h; iexact H
theorem slots_close {ℓ : Loc nD τ sig} {T : Type} [Fintype T] [Nonempty T] (S : T → Finset (Idx ℓ)) (hc : Finset.univ.biUnion S = Finset.univ)
    (hd : ∀ s t, s ≠ t → Disjoint (S s) (S t)) :
    (bigSep Finset.univ fun t => iprop(∃ f : Buf (Elt F) ℓ, ℓ ↦[S t]{fullShare} f) : sProp 𝕄) ⊢ iprop(∃ f : Buf (Elt F) ℓ, ℓ ↦{fullShare} f) := by
  classical
  iintro H
  ihave H := (BI.bigSep_exists_pi Finset.univ (fun (t : T) (f : Buf (Elt F) ℓ) => (ℓ ↦[S t]{fullShare} f : sProp 𝕄))) $$ H
  icases H with ⟨%fs, H⟩
  ihave H := (pointsTo_biUnion_join Finset.univ S fs (fs (Classical.arbitrary T)) fun s _ t _ hst => hd s t hst) $$ H
  icases H with ⟨%g, -, H⟩
  iexists g; rw [hc]; iexact H

/-! ## What the body starts from and ends with -/

def wFull (c : Dev nD) : sProp 𝕄 := ((c : Thread nD τ).loc main_arg1) ↦{fullShare} wBuf m c
def s0 (c : Dev nD) : sProp 𝕄 := iprop(∃ f : Buf (Elt F) ((c : Thread nD τ).loc cc0_scratch0), ((c : Thread nD τ).loc cc0_scratch0) ↦{fullShare} f)
def s1 (c : Dev nD) : sProp 𝕄 := iprop(∃ f : Buf (Elt F) ((c : Thread nD τ).loc cc0_scratch1), ((c : Thread nD τ).loc cc0_scratch1) ↦{fullShare} f)
def s2 (c : Dev nD) : sProp 𝕄 := iprop(∃ f : Buf (Elt F) ((c : Thread nD τ).loc cc0_scratch2), ((c : Thread nD τ).loc cc0_scratch2) ↦{fullShare} f)

theorem s0_open (c : Dev nD) : s0 c ⊢ (iprop(sFree c c ∗ bigSep Finset.univ fun r : Fin 31 => sFree c (peer c r)) : sProp 𝕄) := by
  rw [← bigSep_devs c (sFree (F := F) c)]
  unfold s0 sFree sAt
  exact slots_open (ℓ := (c : Thread nD τ).loc cc0_scratch0) (fun t => (rSlot t).set) rSlot_cover fun _ _ => rSlot_disjoint
theorem s0_close (c : Dev nD) : (iprop(sFree c c ∗ bigSep Finset.univ fun r : Fin 31 => sFree c (peer c r)) : sProp 𝕄) ⊢ s0 c := by
  rw [← bigSep_devs c (sFree (F := F) c)]
  unfold s0 sFree sAt
  exact slots_close (ℓ := (c : Thread nD τ).loc cc0_scratch0) (fun t => (rSlot t).set) rSlot_cover fun _ _ => rSlot_disjoint
theorem s1_open (c : Dev nD) : s1 c ⊢ (iprop(tFree c c ∗ bigSep Finset.univ fun r : Fin 31 => tFree c (peer c r)) : sProp 𝕄) := by
  rw [← bigSep_devs c (tFree (F := F) c)]
  unfold s1 tFree tAt
  exact slots_open (ℓ := (c : Thread nD τ).loc cc0_scratch1) (fun t => (rSlot t).set) rSlot_cover fun _ _ => rSlot_disjoint
theorem s1_close (c : Dev nD) : (iprop(tFree c c ∗ bigSep Finset.univ fun r : Fin 31 => tFree c (src c r.succ)) : sProp 𝕄) ⊢ s1 c := by
  rw [← bigSep_srcs c (tFree (F := F) c)]
  unfold s1 tFree tAt
  exact slots_close (ℓ := (c : Thread nD τ).loc cc0_scratch1) (fun t => (rSlot t).set) rSlot_cover fun _ _ => rSlot_disjoint
theorem s2_open (c : Dev nD) : s2 c ⊢ (iprop(vFree c 0 ∗ vFree c 1) : sProp 𝕄) := by
  rw [← bigSep_W0 (vFree (F := F) c)]
  unfold s2 vFree vAt
  exact slots_open (ℓ := (c : Thread nD τ).loc cc0_scratch2) (fun b => (rectW b).set) rectW_cover fun _ _ => rectW_disjoint
theorem s2_close (c : Dev nD) : (iprop(vFree c 0 ∗ vFree c 1) : sProp 𝕄) ⊢ s2 c := by
  rw [← bigSep_W0 (vFree (F := F) c)]
  unfold s2 vFree vAt
  exact slots_close (ℓ := (c : Thread nD τ).loc cc0_scratch2) (fun b => (rectW b).set) rectW_cover fun _ _ => rectW_disjoint

theorem wFull_halves (c : Dev nD) : (wFull m c : sProp 𝕄) ⊣⊢ iprop(wHalf m c 0 ∗ wHalf m c 1) := by
  unfold wFull wHalf; exact pointsTo_share (PosShare.mem_left_op_right fullShare)

def start (c : Dev nD) : sProp 𝕄 :=
  iprop(G' m c ∗ (cred (tallyAt (barCell c) () 31) ∗ bigSep Finset.univ fun r : Fin 31 => cred (tallyAt (recvCell c (src c r.succ)) () N))
    ∗ levAts L lv ∗ wFull m c)
def Φ₀ (c : Dev nD) : sProp 𝕄 := iprop(start m c ∗ s0 c ∗ s1 c ∗ s2 c)
def Φ₁ (c : Dev nD) : sProp 𝕄 := iprop((wFull m c ∗ s0 c ∗ s1 c ∗ s2 c) ∗ semVal (barCell c) 0
  ∗ (bigSep Finset.univ fun t => semVal (sendCell c t) 0) ∗ (bigSep Finset.univ fun s => semVal (recvCell c s) 0) ∗ wZero c)
/-- What the body leaves aside. -/
def aside (c : Dev nD) : sProp 𝕄 := iprop(sFree c c ∗ atPos ER (sendCell c c) 0 ∅ 0 ∗ atPos ER (recvCell c c) 0 ∅ 0)

theorem body_pre (c : Dev nD) :
    iprop((posOf c ∗ payToks c) ∗ wZero c ∗ (cred (tallyAt (barCell c) () 31) ∗ bigSep Finset.univ fun r : Fin 31 => cred (tallyAt (recvCell c (src c r.succ)) () N))
      ∗ wFull m c ∗ s0 c ∗ s1 c ∗ s2 c ∗ owesE c (O₀ c) ∗ xAt m c ∗ (∃ o, oAt c o))
    ⊢ (iprop(bodyIn m c ∗ aside c) : sProp 𝕄) := by
  unfold bodyIn aside sigIn sendIn recvIn sentIn vIdle payToks
  dsimp only [posOf, wZero]
  rw [cells_eq c (fun g => (atPos ER g 0 ∅ 0 : sProp 𝕄)), bigSep_devs c (fun t => (atPos ER (sendCell c t) 0 ∅ 0 : sProp 𝕄)),
    bigSep_srcs c (fun s => (atPos ER (recvCell c s) 0 ∅ 0 : sProp 𝕄)), bigSep_devs c (fun t => (dutyTok ER (barCell t) 0 c : sProp 𝕄)),
    bigSep_devs c (fun t => (dutyTok ER (sendCell c t) 0 0 : sProp 𝕄)), bigSep_devs c (fun t => (dutyTok ER (recvCell t c) 0 0 : sProp 𝕄)),
    bigSep_W0 (fun b : Fin 2 => (semVal ((c : Thread nD τ), .dma (semW b)) 0 : sProp 𝕄))]
  simp only [bigSep_sep']
  iintro ⟨⟨⟨HaB, ⟨HaS, HaSs⟩, HaR, HaRs⟩, ⟨-, HtB⟩, ⟨-, HtS⟩, -, HtR⟩, ⟨HW0, HW1⟩, ⟨HcB, HcR⟩, Hw, H0, H1, H2, HO, Hx, Ho⟩
  ihave Hw := (wFull_halves m c).1 $$ Hw
  icases Hw with ⟨Hw0, Hw1⟩
  ihave H0 := (s0_open c) $$ H0
  icases H0 with ⟨HS, HSs⟩
  ihave H1 := (s1_open c) $$ H1
  icases H1 with ⟨HT, HTs⟩
  ihave H2 := (s2_open c) $$ H2
  icases H2 with ⟨Hv0, Hv1⟩
  isplitr [HaS HaR HS]
  · isplitl [HO]; · iexact HO
    isplitl [Hx]; · iexact Hx
    isplitl [Ho]; · iexact Ho
    isplitl [HtB HTs]
    · isplitl [HtB] <;> iassumption
    isplitl [HcB]; · iexact HcB
    isplitl [HaB]; · iexact HaB
    isplitl [Hv0 Hw0 HW0]
    · isplitl [Hv0]; · iexact Hv0
      isplitl [Hw0] <;> iassumption
    isplitl [Hv1 Hw1 HW1]
    · isplitl [Hv1]; · iexact Hv1
      isplitl [Hw1] <;> iassumption
    isplitl [HT]; · iexact HT
    isplitl [HSs HtS HtR]
    · isplitl [HSs]; · iexact HSs
      isplitl [HtS] <;> iassumption
    isplitl [HcR HaRs]
    · isplitl [HcR] <;> iassumption
    iexact HaSs
  isplitl [HS]; · iexact HS
  isplitl [HaS] <;> iassumption

/-- A cell past its last round closes, its counter at zero. -/
theorem close_one {K : Dev nD × CI → ℕ} (c : Dev nD) (k : CI) {R : ℕ} (h : ∀ r, R ≤ r → (Rd m).duties (kcell (c, k)) r = ∅) :
    iprop(ctx m K ∗ atPos ER (kcell (c, k)) R ∅ 0) ⊢ (|={Set.univ}=> semVal (kcell (c, k)) 0 : sProp 𝕄) := by
  iintro ⟨Hc, Ha⟩
  ihave H := (ctx_cell m K (c, k)) $$ Hc
  icases H with ⟨HI, -⟩
  iapply (Rounds.cell_close ER (Rd m) (Set.mem_univ (K (c, k))) (fun h => h) h)
  isplitl [HI] <;> iassumption
theorem close_all {K : Dev nD × CI → ℕ} (c : Dev nD) (f : Fin 31 → CI) :
    iprop(ctx m K ∗ bigSep Finset.univ fun r => atPos ER (kcell (c, f r)) (0 + 1) ∅ 0) ⊢ (|={Set.univ}=> bigSep Finset.univ fun r => semVal (kcell (c, f r)) 0 : sProp 𝕄) :=
  (with_persistent fun r _ => close_one m c (f r) (duties_later m _)).trans (bigSep_fupd _ _)

theorem body_post {K : Dev nD × CI → ℕ} (c : Dev nD) :
    iprop(ctx m K ∗ bodyOut m c ∗ aside c) ⊢ (|={Set.univ}=> iprop(Φ₁ m c ∗ owesE c 0 ∗ xAt m c ∗ oAt c (outAt m c)) : sProp 𝕄) := by
  unfold bodyOut aside recvOut sentOut vIdle Φ₁
  dsimp only [wZero]
  rw [bigSep_devs c (fun t => (semVal (sendCell c t) 0 : sProp 𝕄)), bigSep_srcs c (fun s => (semVal (recvCell c s) 0 : sProp 𝕄)),
    bigSep_W0 (fun b : Fin 2 => (semVal ((c : Thread nD τ), .dma (semW b)) 0 : sProp 𝕄))]
  simp only [bigSep_sep']
  iintro ⟨#Hc, ⟨HO, Hx, Ho, HaB, ⟨Hv0, Hw0, HW0⟩, ⟨Hv1, Hw1, HW1⟩, HT, ⟨HaRs, HTs⟩, HaSs, HSs⟩, HS, HaS, HaR⟩
  imod (close_one m c (.inl ()) (R := 0 + 1) (duties_later m _)) $$ [HaB] with HB
  · isplitr; · iexact Hc
    iexact HaB
  imod (close_one m c (.inr (.inl c)) (R := 0) (duties_none m c _ (dut_send_self c))) $$ [HaS] with HzS
  · isplitr; · iexact Hc
    iexact HaS
  imod (close_one m c (.inr (.inr c)) (R := 0) (duties_none m c _ (dut_recv_self c))) $$ [HaR] with HzR
  · isplitr; · iexact Hc
    iexact HaR
  imod (close_all m c (fun r => .inr (.inl (peer c r)))) $$ [HaSs] with HzSs
  · isplitr; · iexact Hc
    iexact HaSs
  imod (close_all m c (fun r => .inr (.inr (src c r.succ)))) $$ [HaRs] with HzRs
  · isplitr; · iexact Hc
    iexact HaRs
  imodintro
  isplitr [HO Hx Ho]
  · isplitl [Hw0 Hw1 HS HSs HT HTs Hv0 Hv1]
    · isplitl [Hw0 Hw1]
      · iapply (wFull_halves m c).2; isplitl [Hw0] <;> iassumption
      isplitl [HS HSs]
      · iapply (s0_close c); isplitl [HS] <;> iassumption
      isplitl [HT HTs]
      · iapply (s1_close c); isplitl [HT] <;> iassumption
      iapply (s2_close c); isplitl [Hv0] <;> iassumption
    isplitl [HB]; · iexact HB
    isplitl [HzS HzSs]
    · isplitl [HzS]; · iexact HzS
      iexact HzSs
    isplitl [HzR HzRs]
    · isplitl [HzR]; · iexact HzR
      iexact HzRs
    isplitl [HW0] <;> iassumption
  isplitl [HO]; · iexact HO
  isplitl [Hx] <;> iassumption

/-! ## The pipeline's data and the body's obligation -/

def t₀ : Fin cfg0.N := ⟨0, by rw [show cfg0.N = 1 from N_0]; decide⟩
theorem fin_N (t : Fin cfg0.N) : t = t₀ := by
  obtain ⟨t, ht⟩ := t; have : cfg0.N = 1 := N_0; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m c ∗ (dats m 0 c).owesAt () t₀.castSucc
    ∗ (∃ d, stg c cc0_stg0_0 ((dats m 0 c).before (0 : Fin 2) t₀ d)) ∗ (∃ d, stg c cc0_stg1_0 ((dats m 0 c).before (1 : Fin 2) t₀ d)))
def bodyPost (c : Dev nD) : sProp 𝕄 :=
  iprop(Φ₁ m c ∗ (dats m 0 c).owesAt () t₀.succ ∗ stg c cc0_stg0_0 (xstg m c) ∗ stg c cc0_stg1_0 (outAt m c))

theorem pre_intro (c : Dev nD) : bodyPre m c ⊢ (iprop(∃ K, ctx m K ∗ bodyIn m c ∗ aside c) : sProp 𝕄) := by
  unfold bodyPre Φ₀ start G' Dat.owesAt Pipeline.owesWithin
  rw [show (dats m 0 c).owed t₀.castSucc = O₀ c from rfl]
  iintro ⟨⟨⟨⟨⟨%K, #HR, Hp, Ht⟩, HW⟩, Hcr, #HL, Hw⟩, H0, H1, H2⟩, ⟨%W, -, HO⟩, ⟨%d, ⟨%g0, %hg0, Hx⟩⟩, ⟨%d1, ⟨%g1, -, Ho⟩⟩⟩
  have hx : g0 = xstg m c := by rw [hg0]; unfold Dat.before; rw [if_pos (fetch_0 t₀)]; rfl
  subst hx
  iexists K
  isplitr
  · unfold ctx
    isplitr; · iexact HR
    iexact HL
  iapply (body_pre m c)
  isplitl [Hp Ht]
  · isplitl [Hp] <;> iassumption
  isplitl [HW]; · iexact HW
  isplitl [Hcr]; · iexact Hcr
  isplitl [Hw]; · iexact Hw
  isplitl [H0]; · iexact H0
  isplitl [H1]; · iexact H1
  isplitl [H2]; · iexact H2
  isplitl [HO]; · unfold owesE; iexists W; iexact HO
  isplitl [Hx]; · unfold xAt; iexact Hx
  iexists g1; unfold oAt; iexact Ho

theorem post_intro (c : Dev nD) : iprop(Φ₁ m c ∗ owesE c 0 ∗ xAt m c ∗ oAt c (outAt m c)) ⊢ (bodyPost m c : sProp 𝕄) := by
  unfold bodyPost Dat.owesAt Pipeline.owesWithin owesE xAt oAt
  rw [show (dats m 0 c).owed t₀.succ = 0 from rfl]
  iintro ⟨HΦ, ⟨%W, HO⟩, Hx, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem sound_body (c : Dev nD) : bodyPre m c ⊢ wp frame (wpE (defs₀ (F := F)) 𝒱₀ (c : Thread nD τ) none) Set.univ
    (.op .deviceId fun d => bodyAt d) (fun _ => bodyPost m c) := by
  rw [wp_deviceId]
  iintro H
  ihave H := (pre_intro m c) $$ H
  icases H with ⟨%K, #Hc, Hin, Ha⟩
  iapply wp_fupd
  iapply (tri_body m c (K := K) (fun _ => iprop(|={Set.univ}=> bodyPost m c)))
  isplitr; · iexact Hc
  isplitl [Hin]; · iexact Hin
  iintro Hout
  imod (body_post m c (K := K)) $$ [Hout Ha] with H
  · isplitr; · iexact Hc
    isplitl [Hout] <;> iassumption
  imodintro
  iapply (post_intro m c); iexact H

set_option maxRecDepth 65536 in
theorem body_obligation (c : Dev nD) : BodyObligation (dats (F := F) m 0 c) (defs₀ (F := F)) 𝒱₀ () Set.univ := fun t => by
  rw [fin_N t, bigSep_W, bigSep_W]
  simp only [owns_whole_eq]
  show bodyPre m c ⊢ wp frame (wpE (defs₀ (F := F)) 𝒱₀ (c : Thread nD τ) none) Set.univ
    (cc0_body (F := F) xM (Memref.isWhole_whole _) wM (Memref.isWhole_whole _) oM (Memref.isWhole_whole _)
      sM sW tM tW vM (Memref.isWhole_whole _) cc0_scratch3 cc0_scratch4 cc0_scratch5) (fun _ => bodyPost m c)
  rw [body_eq]
  exact sound_body m c

end Cert.A2A

end
-- ==== Proof.Launch.lean ====
/-
  The run of the whole program, from the library's launch theorem: every execution ends, each device's result array holds
  what its kernel computed, the arguments are unchanged and every semaphore reads zero.
-/
module

public import proofs.«01_k».proof.Proof.BodyOb

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What goes in and what comes out -/

theorem start_intro (c : Dev nD) (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start wFull
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ s0 s1 s2
  iintro ⟨Hs, -, Hr⟩
  isplitl [Hs]; · iexact Hs
  iexact Hr

theorem phi1_exit (c : Dev nD) :
    (dats m 0 c).Φ (Fin.last cfg0.N) ⊢ iprop((unscopedSems0 c ∗ wFull m c) ∗ ownZero c ∗ Pipeline.scopedRest cfg0.spec c) := by
  rw [show (dats m 0 c).Φ (Fin.last cfg0.N) = Φ₁ m c from rfl, scopedRest0_eq, ownZero_eq, unscopedSems0_eq]
  unfold Φ₁ s0 s1 s2
  iintro ⟨⟨Hw, Hr⟩, HB, HS, HR, HW⟩
  isplitl [HB Hw]
  · isplitl [HB] <;> iassumption
  isplitr [Hr]
  · isplitr [HW]
    · isplitl [HS] <;> iassumption
    iexact HW
  iexact Hr

theorem stage_ne_semR (w : Fin cfg0.W) (b : Fin (cfg0.spec w).nbuf) : ∀ s, (cfg0.spec w).sem b ≠ semR s := by
  fin_cases w <;> fin_cases b <;> decide +kernel

theorem waits (c : Dev nD) : (levAts L lv : sProp 𝕄) ⊢ Pipeline.cellsWaits cfgs (dats m) () 0 c :=
  Pipeline.cellsWaits_intro cfgs (dats m) () 0 c fun w s t =>
    mayWait_stage c _ (stage_ne_semR w s) _ (by
      rcases t with ⟨_ | _, ht⟩
      · exact Or.inl rfl
      · exact Or.inr rfl)

theorem share_eq (c : Dev nD) (w : Fin cfg0.W) : (dats m 0 c).share w = fullShare := by unfold Dat.share; split <;> rfl

/-- What the second operand and the barrier semaphore read at the end. -/
theorem read_end (c : Dev nD) (s' : Phys nD τ sig (Elt F)) :
    iprop((unscopedSems0 c ∗ wFull m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg1) = m ((c : Thread nD τ).loc main_arg1)⌝ ∗ SI s') : sProp 𝕄) := by
  unfold wFull
  iintro ⟨⟨Hu, Hw⟩, -, HSI⟩
  ihave %hw := (SI_pointsTo_agree (st := s') (ℓ := (c : Thread nD τ).loc main_arg1) (f := wBuf m c)) $$ [HSI Hw]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => hw i (Finset.mem_univ i)⟩
  iexact HSI

/-! ## The run -/

def finalA (c : Dev nD) (w : Fin cfg0.W) : Buf (Elt F) ((cfg0.win w).arr.view.loc (c : Thread nD τ)) := (dats m 0 c).arrAt w cfg0.N

def QC (s : MemSt nD τ sig (Elt F)) : Prop :=
  ∀ c : Dev nD, (∀ w : Fin cfg0.W, s.mem ((cfg0.win w).arr.view.loc (c : Thread nD τ)) = finalA m c w)
    ∧ s.mem ((c : Thread nD τ).loc main_arg1) = m ((c : Thread nD τ).loc main_arg1)

set_option maxRecDepth 8000 in
/-- For any float values, from any memory with zero counters, every weakly fair execution ends as stated. -/
theorem run_all (ρ : Dev nD → PrngReg) :
    θ_run defs (onTc (τ := τ) (main (F := F))) ⟨m, fun _ => 0, ρ⟩ (fun r => QC m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := fund m) (hglob := glob m)
    (hA := fun _ _ => rfl) (hpf := fun _ k => k.elim0)
    (X := start m) (Y := fun c => iprop(unscopedSems0 c ∗ wFull m c)) (Z := fun _ => iprop(emp))
    (hX := fun c => start_intro m c ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨(h c).1, (h c).2.2.2⟩, sem_eq_zero hs fun c => (h c).2.2.1⟩)

/-! ## The contents, in closed form -/

theorem whole_x : (fun a => (win0_0.index (0 : Fin 1)) a * main_arg0.ty.shape.size a) = fun _ => 0 := funext fun a => by fin_cases a <;> decide
theorem whole_o : (fun a => (win0_1.index (0 : Fin 1)) a * main_v1.ty.shape.size a) = fun _ => 0 := funext fun a => by fin_cases a <;> decide

/-- The window of the first operand is the whole of it. -/
theorem xstg_eq (c : Dev nD) : xstg m c = m ((c : Thread nD τ).loc main_arg0) :=
  Memref.read_access_unit_zero (Elt F) main_arg0 whole_x (fun a => by fin_cases a <;> decide) _

theorem finalA_x (c : Dev nD) : finalA m c (0 : Fin 2) = m ((c : Thread nD τ).loc main_arg0) :=
  (dats (F := F) m 0 c).arrAt_in (0 : Fin 2) rfl _
theorem finalA_o (c : Dev nD) : finalA m c (1 : Fin 2) = outAt m c := by
  have h : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 whole_o (fun a => by fin_cases a <;> decide) _).symm.trans h

theorem run_main (ρ : Dev nD → PrngReg) :
    θ_run defs (onTc (τ := τ) (main (F := F))) ⟨m, fun _ => 0, ρ⟩ (fun r =>
      (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  (θ_run defs _ _).mono (fun _ h => ⟨fun c => ⟨((h.1 c).1 (1 : Fin 2)).trans (finalA_o m c), ((h.1 c).1 (0 : Fin 2)).trans (finalA_x m c), (h.1 c).2⟩, h.2⟩)
    (run_all m ρ)

end Cert.A2A

end
-- ==== Proof.Frames.lean ====
/- The frame claims. -/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's run, at the two argument arrays and the counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
          r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1))
      ∧ r.2.sem = fun _ => 0) :=
  (θ_run Cert.KernelIdeal.defs _ _).mono (fun _ h => ⟨fun c => (h.1 c).2, h.2⟩) (Cert.A2A.run_main m ρ)

/-- The frame over the extended reals. -/
theorem frame_pi : Cert.quiescent_KernelIdeal := fun m ρ _ => frame_any m ρ

/-- No rewriting was made: the two printed programs are one program. Their tables are compared label by label. -/
theorem table_eq {F : FTy → Type} [FloatOps F] : Cert.Kernel.defs (F := F) = Cert.KernelIdeal.defs (F := F) := by
  have h : Cert.Kernel.defs₀ (F := F) = Cert.KernelIdeal.defs₀ (F := F) := by
    unfold Cert.Kernel.defs₀ Cert.KernelIdeal.defs₀
    refine congrArg Defs.onTc (funext fun l => ?_)
    match l with
    | 0 => exact funext fun a => rfl
  exact congrArg (Pipeline.defs (Cert.KernelIdeal.pcfgs (F := F))) h

/-- The frame over bit patterns. -/
theorem frame_p : Cert.quiescent_Kernel := by
  intro m ρ _
  rw [table_eq]
  exact frame_any (F := Bits) m ρ

/-- The reference's frame: no operation writes an argument, and it declares no semaphore. -/
theorem frame_ri : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Sums.lean ====
/- The kernel's value as sums: what one packed block, one block of rows of the second argument and one product hold at
   an index, and the thirty-two products added up as one sum over the whole inner axis. Over the extended reals, where
   addition is commutative and associative. -/
module

public import proofs.«01_k».proof.Proof.Launch
public import Idealize.ShloMosaic.Lib.StackMember
public import Idealize.ShloMosaic.Lib.Layout

@[expose] public section

noncomputable section

namespace Cert.A2A

open Cert.KernelIdeal Cert.KernelIdeal.Gen
open Idealize.ShloMosaic Idealize.ShloMosaic.ValueIdx Idealize.ShloMosaic.StackMember
open Idealize.ShloMosaic.TcCoe

open scoped BigOperators

/-- Row `r` of block `s`, of thirty-two blocks of 256 rows. -/
def at256 (s : Fin 32) (r : Fin 256) : Fin 8192 := ⟨256 * s.val + r.val, by omega⟩

/-- A sum over the blocks of the sums over each block is the sum over the whole axis. -/
theorem sum_blocks {M : Type} [AddCommMonoid M] (f : Fin 8192 → M) :
    ∑ s : Fin 32, ∑ r : Fin 256, f (at256 s r) = ∑ k : Fin 8192, f k := by
  rw [← Fintype.sum_prod_type' (f := fun s r => f (at256 s r))]
  refine Fintype.sum_equiv (finProdFinEquiv (m := 32) (n := 256)) _ f fun p => congrArg f (Fin.ext ?_)
  show 256 * p.1.val + p.2.val = p.2.val + 256 * p.1.val
  omega

variable (m : (ℓ : Loc nD τ sig) → Buf (Elt Ideal) ℓ)

/-- The first argument as device `s` holds it, and the second. -/
def xOn (s : Dev nD) : (⟨2, ![8192, 256]⟩ : Shape).Idx → EReal := m ((s : Thread nD τ).loc main_arg0)
@[inherit_doc xOn] def wOn (c : Dev nD) : (⟨2, ![8192, 4096]⟩ : Shape).Idx → EReal := m ((c : Thread nD τ).loc main_arg1)

/-- The block packed for device `c` on device `s`: rows `256 c …` of `s`'s columns of the first argument. Narrowing
    the format changes nothing over the extended reals. -/
theorem blk_apply (s c : Dev nD) (i k : Fin 256) :
    blk m s c (ix2 i k) = xOn m s (ix2 (at256 c i) k) := by
  have h : blk m s c = fun x => xM.view.readAt (Elt Ideal) (rRows c).toLoadRect (xstg m s) x := by
    unfold blk packed k0_pay2
    refine (shapeCast_shapeCast _ _ _).trans ?_
    exact shapeCast_self (s := S256x256) (α := EReal) (fun x => xM.view.readAt (Elt Ideal) (rRows c).toLoadRect (xstg m s) x) shapeCasts_S256x256_S256x256
  rw [h, xstg_eq]
  show xOn m s ((rRows c).emb (ix2 i k)) = _
  refine congrArg (xOn m s) (funext fun a => ?_)
  fin_cases a
  · apply Fin.ext
    show 256 * c.val + 1 * i.val = 256 * c.val + i.val
    omega
  · apply Fin.ext
    show 0 + 1 * k.val = k.val
    omega

/-- Block `s` of the rows of the second argument. -/
theorem wRows_apply (c s : Dev nD) (k : Fin 256) (j : Fin 4096) :
    wRows m c s (ix2 k j) = wOn m c (ix2 (at256 s k) j) := by
  show wOn m c ((rowsOf s).view.emb (ix2 k j)) = _
  refine congrArg (wOn m c) (funext fun a => ?_)
  fin_cases a
  · apply Fin.ext
    show 256 * s.val + 1 * k.val = 256 * s.val + k.val
    omega
  · apply Fin.ext
    show 0 + 1 * j.val = j.val
    omega

/-- One product, from zero, at an index. -/
theorem prodOf_apply (c s : Dev nD) (i : Fin 256) (j : Fin 4096) :
    prodOf m c s (ix2 i j) = ∑ k : Fin 256,
      xOn m s (ix2 (at256 c i) k) * wOn m c (ix2 (at256 s k) j) := by
  unfold prodOf prodB
  rw [matmul_zero_eq_dotGeneral]
  refine (dotGeneral_plain_apply none _ _ i j).trans (Finset.sum_congr rfl fun k _ => ?_)
  rw [blk_apply]
  exact congrArg _ (wRows_apply m c s k j)

/-- The accumulator after `n + 1` products is their sum. -/
theorem acc_apply (c : Dev nD) (n : ℕ) (x : S256x4096.Idx) :
    acc m c n x = ∑ d ∈ Finset.range (n + 1), prodOf m c (src c (Fin.ofNat 32 d)) x := by
  induction n with
  | zero =>
    rw [Finset.sum_range_one]
    show prodOf m c c x = prodOf m c (src c 0) x
    rw [src_zero]
  | succ n ih =>
    rw [Finset.sum_range_succ, ← ih]
    rfl

/-- All thirty-two products: each device's block is met once, whatever device the ring starts from. -/
theorem acc_total (c : Dev nD) (x : S256x4096.Idx) : acc m c 31 x = ∑ s : Dev nD, prodOf m c s x := by
  rw [acc_apply, Finset.sum_range]
  refine (Finset.sum_congr rfl fun d _ => ?_).trans
    (Function.Bijective.sum_comp (Finite.injective_iff_bijective.mp (src_inj c)) fun s => prodOf m c s x)
  rw [show Fin.ofNat 32 d.val = d from Fin.ext (Nat.mod_eq_of_lt d.isLt)]

/-- Where each device holds its block of columns of `X` and the whole of `W`, the accumulated products are the product
    of the two. -/
theorem acc_product (X : (⟨2, ![8192, 8192]⟩ : Shape).Idx → EReal) (W : (⟨2, ![8192, 4096]⟩ : Shape).Idx → EReal)
    (hX : ∀ (s : Dev nD) (a : Fin 8192) (k : Fin 256), xOn m s (ix2 a k) = X (ix2 a (at256 s k)))
    (hW : ∀ c : Dev nD, wOn m c = W) (c : Dev nD) (i : Fin 256) (j : Fin 4096) :
    acc m c 31 (ix2 i j) = ∑ k : Fin 8192, X (ix2 (at256 c i) k) * W (ix2 k j) := by
  rw [acc_total, ← sum_blocks]
  refine Finset.sum_congr rfl fun s _ => ?_
  rw [prodOf_apply]
  refine Finset.sum_congr rfl fun k _ => ?_
  rw [hX, hW]

end Cert.A2A

end
-- ==== Proof.Value.lean ====
/- The value claim: each device's result is its block of rows of the reference's. -/
module

public import proofs.«01_k».proof.Proof.Sums
public import proofs.«01_k».proof.Proof.Frames

@[expose] public section

noncomputable section

namespace Cert.Proof

open Idealize.ShloMosaic Idealize.ShloMosaic.ValueIdx Idealize.ShloMosaic.StackMember Idealize.SL.Sem
open Cert.A2A (at256)

open scoped BigOperators

/-- The activation of one number: half of it, times one more than the hyperbolic tangent of a cubic in it. -/
def act (y : EReal) : EReal :=
  FloatOps.mulf (F := Ideal) (φ := .f32) (FloatOps.mulf (F := Ideal) (φ := .f32) (Scalar.ofBits (F := Ideal) .f32 0x3F000000#32) y)
    (FloatOps.addf (F := Ideal) (φ := .f32) (Scalar.ofBits (F := Ideal) .f32 0x3F800000#32)
      (Ideal.tanh (FloatOps.mulf (F := Ideal) (φ := .f32) (Scalar.ofBits (F := Ideal) .f32 0x3F4C422A#32)
        (FloatOps.addf (F := Ideal) (φ := .f32) y
          (FloatOps.mulf (F := Ideal) (φ := .f32) (Scalar.ofBits (F := Ideal) .f32 0x3D372713#32) (y * (y * y)))))))

/-- The kernel's last step is the activation of every entry. -/
theorem gelu_apply (o : Vec Ideal Cert.KernelIdeal.S256x4096 .f32) (x : Cert.KernelIdeal.S256x4096.Idx) :
    Cert.A2A.gelu o x = act (o x) := by
  unfold Cert.A2A.gelu Cert.KernelIdeal.Gen.k0_pay1
  rw [shapeCast_self]
  rfl

section Reference

open Cert.ReferenceIdeal

/-- The product the reference takes. -/
def product (X : FVec Ideal S8192x8192 .f32) (W : FVec Ideal S8192x4096 .f32) : FVec Ideal S8192x4096 .f32 :=
  Host.dotGeneral dot_S8192x8192_S8192x4096_S8192x4096_1_0_0_1_n_n none X W

/-- The array the reference returns. -/
def refOut (X : FVec Ideal S8192x8192 .f32) (W : FVec Ideal S8192x4096 .f32) : FVec Ideal S8192x4096 .f32 :=
  fun x => act (product X W x)

/-- The reference's run, its result written entry by entry: it cubes as `(y y) y`, the kernel as `y (y y)`. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread _ τ).loc main_v13)
          = refOut (m ((c.tc : Thread _ τ).loc main_arg0)) (m ((c.tc : Thread _ τ).loc main_arg1))
        ∧ r.2.mem ((c.tc : Thread _ τ).loc main_arg0) = m ((c.tc : Thread _ τ).loc main_arg0)
        ∧ r.2.mem ((c.tc : Thread _ τ).loc main_arg1) = m ((c.tc : Thread _ τ).loc main_arg1) := by
  refine (θ_run defs _ _).mono (fun r h c => ⟨(h c).1.trans (funext fun x => ?_), (h c).2⟩) (Value.run m ρ)
  unfold refOut product
  generalize Host.dotGeneral (F := Ideal) dot_S8192x8192_S8192x4096_S8192x4096_1_0_0_1_n_n none (m ((c.tc : Thread _ τ).loc main_arg0))
    (m ((c.tc : Thread _ τ).loc main_arg1)) = Y
  unfold act
  rw [mul_comm (Y x) (Y x * Y x)]
  rfl

/-- The product at an index. -/
theorem product_apply (X : FVec Ideal S8192x8192 .f32) (W : FVec Ideal S8192x4096 .f32) (i : Fin 8192) (j : Fin 4096) :
    product X W (ix2 i j) = ∑ k : Fin 8192, X (ix2 i k) * W (ix2 k j) :=
  dotGeneral_plain_apply none X W i j

end Reference

/-- Device `c`'s block of columns, at an index. -/
theorem cols_apply (X : (⟨2, ![8192, 8192]⟩ : Shape).Idx → EReal) (c : Fin 32) (a : Fin 8192) (k : Fin 256) :
    Layout.block ⟨2, ![8192, 256]⟩ ⟨2, ![8192, 8192]⟩ 1 32 c X (by decide) (ix2 a k) = X (ix2 a (at256 c k)) := by
  rw [Layout.block_apply]
  refine congrArg X (funext fun b => Fin.ext ?_)
  have h := Layout.idx_cols_val (by decide : Layout.Tiles ⟨2, ![8192, 256]⟩ ⟨2, ![8192, 8192]⟩ 1 32) c (ix2 a k)
  fin_cases b
  · exact h.1
  · refine h.2.trans ?_
    show c.val * 256 + k.val = 256 * c.val + k.val
    omega

/-- Device `c`'s block of rows, at an index. -/
theorem rows_apply (Y : (⟨2, ![8192, 4096]⟩ : Shape).Idx → EReal) (c : Fin 32) (i : Fin 256) (j : Fin 4096) :
    Layout.block ⟨2, ![256, 4096]⟩ ⟨2, ![8192, 4096]⟩ 0 32 c Y (by decide) (ix2 i j) = Y (ix2 (at256 c i) j) := by
  rw [Layout.block_apply]
  refine congrArg Y (funext fun b => Fin.ext ?_)
  have h := Layout.idx_rows_val (by decide : Layout.Tiles ⟨2, ![256, 4096]⟩ ⟨2, ![8192, 4096]⟩ 0 32) c (ix2 i j)
  fin_cases b
  · refine h.1.trans ?_
    show c.val * 256 + i.val = 256 * c.val + i.val
    omega
  · exact h.2

/-- What device `c` leaves in its result is its block of rows of the reference's array. -/
theorem out_eq (m : (ℓ : Loc Cert.KernelIdeal.nD Cert.KernelIdeal.τ Cert.KernelIdeal.sig) → Buf (Elt Ideal) ℓ)
    (X : (⟨2, ![8192, 8192]⟩ : Shape).Idx → EReal) (W : (⟨2, ![8192, 4096]⟩ : Shape).Idx → EReal)
    (hX : ∀ s, Cert.A2A.xOn m s = Layout.block ⟨2, ![8192, 256]⟩ ⟨2, ![8192, 8192]⟩ 1 32 s X (by decide))
    (hW : ∀ s, Cert.A2A.wOn m s = W) (c : Dev Cert.KernelIdeal.nD) :
    Cert.A2A.outAt m c = Layout.block ⟨2, ![256, 4096]⟩ ⟨2, ![8192, 4096]⟩ 0 32 c (refOut X W) (by decide) := by
  funext x
  rw [eq_ix2 x]
  refine (gelu_apply _ _).trans (Eq.trans ?_ (rows_apply (refOut X W) c (x 0) (x 1)).symm)
  refine congrArg act ?_
  refine (Cert.A2A.acc_product m X W (fun s a k => ?_) hW c (x 0) (x 1)).trans (product_apply X W _ _).symm
  rw [hX s, cols_apply]

/-- The kernel computes the reference's mathematics. -/
theorem algebraic : Cert.algebraic_KernelIdeal_ReferenceIdeal := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c).1.trans ?_, (h.1 c).2⟩) (Cert.A2A.run_main m ρ)
    exact out_eq m _ _ (fun s => (hagree s).1) (fun s => (hagree s).2) c
  · exact (θ_run Cert.ReferenceIdeal.defs _ _).mono (fun _ h => h 0) (ref_run m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_p, frame_pi, frame_ri, trivial, algebraic⟩

end Cert.Proof

end
